-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x256x2048 : Shape := ⟨3, ![32, 256, 2048]⟩
abbrev S256x2048 : Shape := ⟨2, ![256, 2048]⟩
abbrev S8192x2048 : Shape := ⟨2, ![8192, 2048]⟩
abbrev S2048x256 : Shape := ⟨2, ![2048, 256]⟩
abbrev S8192x256 : Shape := ⟨2, ![8192, 256]⟩
abbrev S255x32x256 : Shape := ⟨3, ![255, 32, 256]⟩
abbrev S2048x2048 : Shape := ⟨2, ![2048, 2048]⟩
abbrev S256x8x256 : Shape := ⟨3, ![256, 8, 256]⟩
abbrev S8x256x256 : Shape := ⟨3, ![8, 256, 256]⟩
abbrev S8x256 : Shape := ⟨2, ![8, 256]⟩
abbrev S8x1x256 : Shape := ⟨3, ![8, 1, 256]⟩
abbrev S8x256x1 : Shape := ⟨3, ![8, 256, 1]⟩
abbrev S8x1 : Shape := ⟨2, ![8, 1]⟩
abbrev S8x255 : Shape := ⟨2, ![8, 255]⟩
abbrev S8x2 : Shape := ⟨2, ![8, 2]⟩
abbrev S8x254 : Shape := ⟨2, ![8, 254]⟩
abbrev S8x4 : Shape := ⟨2, ![8, 4]⟩
abbrev S8x252 : Shape := ⟨2, ![8, 252]⟩
abbrev S8x8 : Shape := ⟨2, ![8, 8]⟩
abbrev S8x248 : Shape := ⟨2, ![8, 248]⟩
abbrev S8x16 : Shape := ⟨2, ![8, 16]⟩
abbrev S8x240 : Shape := ⟨2, ![8, 240]⟩
abbrev S8x32 : Shape := ⟨2, ![8, 32]⟩
abbrev S8x224 : Shape := ⟨2, ![8, 224]⟩
abbrev S8x64 : Shape := ⟨2, ![8, 64]⟩
abbrev S8x192 : Shape := ⟨2, ![8, 192]⟩
abbrev S8x128 : Shape := ⟨2, ![8, 128]⟩
abbrev S8 : Shape := ⟨1, ![8]⟩
abbrev S1x256x256 : Shape := ⟨3, ![1, 256, 256]⟩
abbrev S256x256 : Shape := ⟨2, ![256, 256]⟩
abbrev S256x1x256 : Shape := ⟨3, ![256, 1, 256]⟩
abbrev S32x256x256 : Shape := ⟨3, ![32, 256, 256]⟩

abbrev nBuf : Space → Nat
  | .hbm => 7
  | .vmem => 7
  | .smem => 0
  | _ => 0

abbrev bufTy : (tb : Table) → Fin (tcTables nBuf tb) → BufTy
  | .hbm, ⟨0, _⟩ => ⟨S32x256x2048, .f32⟩
  | .hbm, ⟨1, _⟩ => ⟨S256x2048, .f32⟩
  | .hbm, ⟨2, _⟩ => ⟨S8192x2048, .f32⟩
  | .hbm, ⟨3, _⟩ => ⟨S2048x256, .f32⟩
  | .hbm, ⟨4, _⟩ => ⟨S8192x256, .f32⟩
  | .hbm, ⟨5, _⟩ => ⟨S255x32x256, .f32⟩
  | .hbm, ⟨6, _⟩ => ⟨S32x256x256, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S256x8x256, .f32⟩
  | .local _ .vmem, ⟨6, _⟩ => ⟨S256x8x256, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x256x2048 : Shape := ⟨3, ![32, 256, 2048]⟩
abbrev S256x2048 : Shape := ⟨2, ![256, 2048]⟩
abbrev S32x256x256 : Shape := ⟨3, ![32, 256, 256]⟩
abbrev S_ : Shape := ⟨0, ![]⟩
abbrev S32x256 : Shape := ⟨2, ![32, 256]⟩
abbrev S32 : Shape := ⟨1, ![32]⟩
abbrev S255 : Shape := ⟨1, ![255]⟩
abbrev S1 : Shape := ⟨1, ![1]⟩
abbrev S32x1 : Shape := ⟨2, ![32, 1]⟩
abbrev S32x2 : Shape := ⟨2, ![32, 2]⟩
abbrev S2 : Shape := ⟨1, ![2]⟩
abbrev S32x256x255 : Shape := ⟨3, ![32, 256, 255]⟩
abbrev S255x32x256 : Shape := ⟨3, ![255, 32, 256]⟩

abbrev nBuf : Space → Nat
  | .hbm => 89
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S256x2048, .f32⟩
  | .hbm, ⟨2, _⟩ => ⟨S32x256x256, .f32⟩
  | .hbm, ⟨3, _⟩ => ⟨S_, .f32⟩
  | .hbm, ⟨4, _⟩ => ⟨S32x256x256, .f32⟩
  | .hbm, ⟨5, _⟩ => ⟨S32x256x256, .i1⟩
  | .hbm, ⟨6, _⟩ => ⟨S_, .f32⟩
  | .hbm, ⟨7, _⟩ => ⟨S_, .f32⟩
  | .hbm, ⟨8, _⟩ => ⟨S32x256x256, .f32⟩
  | .hbm, ⟨9, _⟩ => ⟨S32x256x256, .f32⟩
  | .hbm, ⟨10, _⟩ => ⟨S32x256x256, .i32⟩
  | .hbm, ⟨11, _⟩ => ⟨S_, .f32⟩
  | .hbm, ⟨12, _⟩ => ⟨S_, .i32⟩
  | .hbm, ⟨13, _⟩ => ⟨S32x256, .f32⟩
  | .hbm, ⟨14, _⟩ => ⟨S32x256, .i32⟩
  | .hbm, ⟨15, _⟩ => ⟨S32, .i32⟩
  | .hbm, ⟨16, _⟩ => ⟨S255, .i32⟩
  | .hbm, ⟨17, _⟩ => ⟨S_, .i32⟩
  | .hbm, ⟨18, _⟩ => ⟨S255, .i32⟩
  | .hbm, ⟨19, _⟩ => ⟨S32x256, .i32⟩
  | .hbm, ⟨20, _⟩ => ⟨S32, .i32⟩
  | .hbm, ⟨21, _⟩ => ⟨S_, .i32⟩
  | .hbm, ⟨22, _⟩ => ⟨S32x256x256, .f32⟩
  | .hbm, ⟨23, _⟩ => ⟨S_, .i32⟩
  | .hbm, ⟨24, _⟩ => ⟨S_, .i1⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S32x1, .i32⟩
  | .hbm, ⟨41, _⟩ => ⟨S32, .i32⟩
  | .hbm, ⟨42, _⟩ => ⟨S_, .i32⟩
  | .hbm, ⟨43, _⟩ => ⟨S32, .i32⟩
  | .hbm, ⟨44, _⟩ => ⟨S32, .i1⟩
  | .hbm, ⟨45, _⟩ => ⟨S_, .i32⟩
  | .hbm, ⟨46, _⟩ => ⟨S32, .i32⟩
  | .hbm, ⟨47, _⟩ => ⟨S32, .i32⟩
  | .hbm, ⟨48, _⟩ => ⟨S32, .i32⟩
  | .hbm, ⟨49, _⟩ => ⟨S_, .i32⟩
  | .hbm, ⟨50, _⟩ => ⟨S32, .i32⟩
  | .hbm, ⟨51, _⟩ => ⟨S32, .i1⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S32, .i32⟩
  | .hbm, ⟨56, _⟩ => ⟨S32x1, .i32⟩
  | .hbm, ⟨57, _⟩ => ⟨S32x1, .i32⟩
  | .hbm, ⟨58, _⟩ => ⟨S32x2, .i32⟩
  | .hbm, ⟨59, _⟩ => ⟨S32x256, .f32⟩
  | .hbm, ⟨60, _⟩ => ⟨S32x256, .i32⟩
  | .hbm, ⟨61, _⟩ => ⟨S_, .f32⟩
  | .hbm, ⟨62, _⟩ => ⟨S_, .i32⟩
  | .hbm, ⟨63, _⟩ => ⟨S32, .f32⟩
  | .hbm, ⟨64, _⟩ => ⟨S32, .i32⟩
  | .hbm, ⟨65, _⟩ => ⟨S32, .i32⟩
  | .hbm, ⟨66, _⟩ => ⟨S32, .i1⟩
  | .hbm, ⟨67, _⟩ => ⟨S32, .f32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1, .i32⟩
  | .hbm, ⟨75, _⟩ => ⟨S1, .i32⟩
  | .hbm, ⟨76, _⟩ => ⟨S2, .i32⟩
  | .hbm, ⟨77, _⟩ => ⟨S32x256x256, .f32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S32x256x256, .f32⟩
  | .hbm, ⟨82, _⟩ => ⟨S32x256x256, .i1⟩
  | .hbm, ⟨83, _⟩ => ⟨S_, .f32⟩
  | .hbm, ⟨84, _⟩ => ⟨S_, .f32⟩
  | .hbm, ⟨85, _⟩ => ⟨S32x256x256, .f32⟩
  | .hbm, ⟨86, _⟩ => ⟨S32x256x256, .f32⟩
  | .hbm, ⟨87, _⟩ => ⟨S32x256x255, .f32⟩
  | .hbm, ⟨88, _⟩ => ⟨S255x32x256, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_c : Ref sig .tc := ⟨.hbm, 12, rfl⟩
abbrev main_call1_v1_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_while0c_c_7 : Ref sig .tc := ⟨.hbm, 23, rfl⟩
abbrev main_while0c_v13 : Ref sig .tc := ⟨.hbm, 24, rfl⟩
abbrev main_while0b_call2_v0 : Ref sig .tc := ⟨.hbm, 25, rfl⟩
abbrev main_while0b_v13 : Ref sig .tc := ⟨.hbm, 26, rfl⟩
abbrev main_while0b_c_7 : Ref sig .tc := ⟨.hbm, 27, rfl⟩
abbrev main_while0b_c_8 : Ref sig .tc := ⟨.hbm, 28, rfl⟩
abbrev main_while0b_v14 : Ref sig .tc := ⟨.hbm, 29, rfl⟩
abbrev main_while0b_c_9 : Ref sig .tc := ⟨.hbm, 30, rfl⟩
abbrev main_while0b_c_10 : Ref sig .tc := ⟨.hbm, 31, rfl⟩
abbrev main_while0b_v15 : Ref sig .tc := ⟨.hbm, 32, rfl⟩
abbrev main_while0b_c_11 : Ref sig .tc := ⟨.hbm, 33, rfl⟩
abbrev main_while0b_v16 : Ref sig .tc := ⟨.hbm, 34, rfl⟩
abbrev main_while0b_c_12 : Ref sig .tc := ⟨.hbm, 35, rfl⟩
abbrev main_while0b_v17 : Ref sig .tc := ⟨.hbm, 36, rfl⟩
abbrev main_while0b_c_13 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_c_14 : Ref sig .tc := ⟨.hbm, 42, rfl⟩
abbrev main_while0b_v22 : Ref sig .tc := ⟨.hbm, 43, rfl⟩
abbrev main_while0b_v23 : Ref sig .tc := ⟨.hbm, 44, rfl⟩
abbrev main_while0b_c_15 : Ref sig .tc := ⟨.hbm, 45, rfl⟩
abbrev main_while0b_v24 : Ref sig .tc := ⟨.hbm, 46, rfl⟩
abbrev main_while0b_v25 : Ref sig .tc := ⟨.hbm, 47, rfl⟩
abbrev main_while0b_v26 : Ref sig .tc := ⟨.hbm, 48, rfl⟩
abbrev main_while0b_c_16 : Ref sig .tc := ⟨.hbm, 49, rfl⟩
abbrev main_while0b_v27 : Ref sig .tc := ⟨.hbm, 50, rfl⟩
abbrev main_while0b_v28 : Ref sig .tc := ⟨.hbm, 51, rfl⟩
abbrev main_while0b_c_17 : Ref sig .tc := ⟨.hbm, 52, rfl⟩
abbrev main_while0b_v29 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_call3_v0 : Ref sig .tc := ⟨.hbm, 60, rfl⟩
abbrev main_while0b_call3_cst : Ref sig .tc := ⟨.hbm, 61, rfl⟩
abbrev main_while0b_call3_c : Ref sig .tc := ⟨.hbm, 62, rfl⟩
abbrev main_while0b_call3_v1_0 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_c_18 : Ref sig .tc := ⟨.hbm, 68, rfl⟩
abbrev main_while0b_v40 : Ref sig .tc := ⟨.hbm, 69, rfl⟩
abbrev main_while0b_c_19 : Ref sig .tc := ⟨.hbm, 70, rfl⟩
abbrev main_while0b_v41 : Ref sig .tc := ⟨.hbm, 71, rfl⟩
abbrev main_while0b_v42 : Ref sig .tc := ⟨.hbm, 72, rfl⟩
abbrev main_while0b_c_20 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_c_21 : Ref sig .tc := ⟨.hbm, 78, rfl⟩
abbrev main_while0b_v47 : Ref sig .tc := ⟨.hbm, 79, rfl⟩
abbrev main_cst_1 : Ref sig .tc := ⟨.hbm, 80, rfl⟩
abbrev main_v8 : Ref sig .tc := ⟨.hbm, 81, rfl⟩
abbrev main_v9 : Ref sig .tc := ⟨.hbm, 82, rfl⟩
abbrev main_cst_2 : Ref sig .tc := ⟨.hbm, 83, rfl⟩
abbrev main_call4_v0 : Ref sig .tc := ⟨.hbm, 84, rfl⟩
abbrev main_call4_v1 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩

abbrev nD : Nat := 1
abbrev τ : Topo := Topo.v7x

variable {F : FTy → Type} [FloatOps F]

abbrev main_while0_count : Scf.Loop 32 := ⟨0#32, 255#32, 1#32⟩
-- ==== Proof.RefLines.lean ====
/- The reference's lines, in the stretches that its calls and its loop cut them into. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.ReferenceIdeal.Lines

open Idealize.ShloMosaic Idealize.ShloMosaic.TcCoe Idealize.ShloMosaic.StableHlo Idealize.SL.Sem
open Cert.ReferenceIdeal Cert.ReferenceIdeal.Gen

variable {F : FTy → Type} [FloatOps F]

/-- A stretch of host operations. -/
abbrev Line (F : FTy → Type) [FloatOps F] := List (HloOp τ sig (Elt F))

/-- The product, and where it is zero. -/
abbrev markOps : Line F :=
  [ StableHlo.binary main_arg0 main_arg1 main_v0 ((fun l r => Host.dotGeneral dot_S32x256x2048_S256x2048_S32x256x256_2_1_01_0_n_n none l r) : (⟨S32x256x2048, .f32⟩ : BufTy).Contents (Elt F) → (⟨S256x2048, .f32⟩ : BufTy).Contents (Elt F) → (⟨S32x256x256, .f32⟩ : BufTy).Contents (Elt F)),
    StableHlo.nullary main_cst (constant S_ .f32 0x00000000#32),
    StableHlo.unary main_cst main_v1 (broadcastInDim S32x256x256 ![] bcast_S_S32x256x256 : (⟨S_, .f32⟩ : BufTy).Contents (Elt F) → (⟨S32x256x256, .f32⟩ : BufTy).Contents (Elt F)),
    StableHlo.binary main_v0 main_v1 main_v2 (cmpf .oeq : (⟨S32x256x256, .f32⟩ : BufTy).Contents (Elt F) → (⟨S32x256x256, .f32⟩ : BufTy).Contents (Elt F) → (⟨S32x256x256, .i1⟩ : BufTy).Contents (Elt F)),
    StableHlo.nullary main_cst_0 (constant S_ .f32 0xBF800000#32) ]

/-- The zeros marked. -/
abbrev whereOps : Line F :=
  [ StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S32x256x256, .f32⟩) (broadcastInDim S32x256x256 ![] bcast_S_S32x256x256),
    StableHlo.TRef.ternary (.of main_v2 : StableHlo.TRef sig ⟨S32x256x256, .i1⟩) (.of main_call0_v1 : StableHlo.TRef sig ⟨S32x256x256, .f32⟩) (.of main_v0 : StableHlo.TRef sig ⟨S32x256x256, .f32⟩) (.of main_v3 : StableHlo.TRef sig ⟨S32x256x256, .f32⟩) select ]

/-- Each column's arg-max. -/
abbrev argmaxOps : Line F :=
  [ StableHlo.TRef.nullary (.of main_call1_v0 : StableHlo.TRef sig ⟨S32x256x256, .i32⟩) (iotaInDim S32x256x256 32 1),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_v3 : StableHlo.TRef sig ⟨S32x256x256, .f32⟩) (.of main_call1_v0 : StableHlo.TRef sig ⟨S32x256x256, .i32⟩) (.of main_call1_cst : StableHlo.TRef sig ⟨S_, .f32⟩) (.of main_call1_c : StableHlo.TRef sig ⟨S_, .i32⟩) (.of main_call1_v1_0 : StableHlo.TRef sig ⟨S32x256, .f32⟩) (fun x y u v j => (Host.argReduce reducer_argmax_f32_i32 x y u v reducesTo_S32x256x256_S32x256_d1 h_S_ j).1),
    StableHlo.TRef.quaternary (.of main_v3 : StableHlo.TRef sig ⟨S32x256x256, .f32⟩) (.of main_call1_v0 : StableHlo.TRef sig ⟨S32x256x256, .i32⟩) (.of main_call1_cst : StableHlo.TRef sig ⟨S_, .f32⟩) (.of main_call1_c : StableHlo.TRef sig ⟨S_, .i32⟩) (.of main_v4 : StableHlo.TRef sig ⟨S32x256, .i32⟩) (fun x y u v j => (Host.argReduce reducer_argmax_f32_i32 x y u v reducesTo_S32x256x256_S32x256_d1 h_S_ j).2) ]

/-- What the loop carries. -/
abbrev enterOps : Line F :=
  [ StableHlo.nullary main_v5 (iotaInDim S32 32 0),
    StableHlo.nullary main_v6 (iotaInDim S255 32 0),
    StableHlo.nullary main_c (constantI S_ 32 0#32),
    StableHlo.unary main_v6 main_v7_0 id,
    StableHlo.unary main_v4 main_v7_1 id,
    StableHlo.unary main_v5 main_v7_2 id,
    StableHlo.unary main_c main_v7_3 id,
    StableHlo.unary main_v3 main_v7_4 id ]

/-- Where the last matrix holds the mark. -/
abbrev unmarkOps : Line F :=
  [ StableHlo.nullary main_cst_1 (constant S_ .f32 0xBF800000#32),
    StableHlo.unary main_cst_1 main_v8 (broadcastInDim S32x256x256 ![] bcast_S_S32x256x256 : (⟨S_, .f32⟩ : BufTy).Contents (Elt F) → (⟨S32x256x256, .f32⟩ : BufTy).Contents (Elt F)),
    StableHlo.binary main_v7_4 main_v8 main_v9 (cmpf .oeq : (⟨S32x256x256, .f32⟩ : BufTy).Contents (Elt F) → (⟨S32x256x256, .f32⟩ : BufTy).Contents (Elt F) → (⟨S32x256x256, .i1⟩ : BufTy).Contents (Elt F)),
    StableHlo.nullary main_cst_2 (constant S_ .f32 0x00000000#32) ]

/-- The marks made zeros again. -/
abbrev unwhereOps : Line F :=
  [ StableHlo.TRef.unary (.of main_cst_2 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S32x256x256, .f32⟩) (broadcastInDim S32x256x256 ![] bcast_S_S32x256x256),
    StableHlo.TRef.ternary (.of main_v9 : StableHlo.TRef sig ⟨S32x256x256, .i1⟩) (.of main_call4_v1 : StableHlo.TRef sig ⟨S32x256x256, .f32⟩) (.of main_v7_4 : StableHlo.TRef sig ⟨S32x256x256, .f32⟩) (.of main_v10 : StableHlo.TRef sig ⟨S32x256x256, .f32⟩) select ]

/-- All columns but the last, the column axis first. -/
abbrev cutOps : Line F :=
  [ StableHlo.unary main_v10 main_v11 ((extractStridedSlice S32x256x255 ![0, 0, 0] · slices_S32x256x256_S32x256x255_0_0_0) : (⟨S32x256x256, .f32⟩ : BufTy).Contents (Elt F) → (⟨S32x256x255, .f32⟩ : BufTy).Contents (Elt F)),
    StableHlo.unary main_v11 main_v12 ((transpose S255x32x256 [2, 0, 1] · transposes_S32x256x255_S255x32x256_2_0_1) : (⟨S32x256x255, .f32⟩ : BufTy).Contents (Elt F) → (⟨S255x32x256, .f32⟩ : BufTy).Contents (Elt F)) ]

/-- The trip's column. -/
abbrev columnOps : Line F :=
  [ StableHlo.TRef.unaryIndexed (.of main_v7_0 : StableHlo.TRef sig ⟨S255, .i32⟩) ![(.of main_v7_3 : StableHlo.TRef sig ⟨S_, .i32⟩)] (.of main_while0b_call2_v0 : StableHlo.TRef sig ⟨S1, .i32⟩) (fun x i => Host.dynamicSlice S1 x (fun k => (i k (Shape.Idx.first h_S_)).toInt) sliceFits_S255_S1),
    StableHlo.TRef.reshape (.of main_while0b_call2_v0 : StableHlo.TRef sig ⟨S1, .i32⟩) (.of main_while0b_v13 : StableHlo.TRef sig ⟨S_, .i32⟩) (rfl : (.i32 : EltTy) = .i32) shapeCasts_S1_S_ ]

/-- The two indices into the arg-max, counted from the end where negative. -/
abbrev wrapOps : Line F :=
  [ StableHlo.nullary main_while0b_c_7 (constantI S_ 32 0#32),
    StableHlo.nullary main_while0b_c_8 (constantI S_ 32 0#32),
    StableHlo.binary main_while0b_c_7 main_while0b_c_8 main_while0b_v14 (cmpi .slt : (⟨S_, .i32⟩ : BufTy).Contents (Elt F) → (⟨S_, .i32⟩ : BufTy).Contents (Elt F) → (⟨S_, .i1⟩ : BufTy).Contents (Elt F)),
    StableHlo.nullary main_while0b_c_9 (constantI S_ 32 0#32),
    StableHlo.nullary main_while0b_c_10 (constantI S_ 32 32#32),
    StableHlo.binary main_while0b_c_9 main_while0b_c_10 main_while0b_v15 (addi : (⟨S_, .i32⟩ : BufTy).Contents (Elt F) → (⟨S_, .i32⟩ : BufTy).Contents (Elt F) → (⟨S_, .i32⟩ : BufTy).Contents (Elt F)),
    StableHlo.nullary main_while0b_c_11 (constantI S_ 32 0#32),
    StableHlo.ternary main_while0b_v14 main_while0b_v15 main_while0b_c_11 main_while0b_v16 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.binary main_while0b_v13 main_while0b_c_12 main_while0b_v17 (cmpi .slt : (⟨S_, .i32⟩ : BufTy).Contents (Elt F) → (⟨S_, .i32⟩ : BufTy).Contents (Elt F) → (⟨S_, .i1⟩ : BufTy).Contents (Elt F)),
    StableHlo.nullary main_while0b_c_13 (constantI S_ 32 256#32),
    StableHlo.binary main_while0b_v13 main_while0b_c_13 main_while0b_v18 (addi : (⟨S_, .i32⟩ : BufTy).Contents (Elt F) → (⟨S_, .i32⟩ : BufTy).Contents (Elt F) → (⟨S_, .i32⟩ : BufTy).Contents (Elt F)),
    StableHlo.ternary main_while0b_v17 main_while0b_v18 main_while0b_v13 main_while0b_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The rows that the column's arg-max names. -/
abbrev rowOps : Line F :=
  [ StableHlo.unaryIndexed main_v7_1 ![main_while0b_v16, main_while0b_v19] ⟨S_, .i32⟩ main_while0b_v20 ((fun x i => Host.dynamicSlice S32x1 x (fun k => (i k (Shape.Idx.first h_S_)).toInt) sliceFits_S32x256_S32x1) : (⟨S32x256, .i32⟩ : BufTy).Contents (Elt F) → (Fin 2 → (⟨S_, .i32⟩ : BufTy).Contents (Elt F)) → (⟨S32x1, .i32⟩ : BufTy).Contents (Elt F)),
    StableHlo.reshape main_while0b_v20 main_while0b_v21 (rfl : (.i32 : EltTy) = .i32) shapeCasts_S32x1_S32 ]

/-- The matrix at those rows. -/
abbrev lookOps : Line F :=
  [ StableHlo.nullary main_while0b_c_14 (constantI S_ 32 0#32),
    StableHlo.unary main_while0b_c_14 main_while0b_v22 (broadcastInDim S32 ![] bcast_S_S32 : (⟨S_, .i32⟩ : BufTy).Contents (Elt F) → (⟨S32, .i32⟩ : BufTy).Contents (Elt F)),
    StableHlo.binary main_v7_2 main_while0b_v22 main_while0b_v23 (cmpi .slt : (⟨S32, .i32⟩ : BufTy).Contents (Elt F) → (⟨S32, .i32⟩ : BufTy).Contents (Elt F) → (⟨S32, .i1⟩ : BufTy).Contents (Elt F)),
    StableHlo.nullary main_while0b_c_15 (constantI S_ 32 32#32),
    StableHlo.unary main_while0b_c_15 main_while0b_v24 (broadcastInDim S32 ![] bcast_S_S32 : (⟨S_, .i32⟩ : BufTy).Contents (Elt F) → (⟨S32, .i32⟩ : BufTy).Contents (Elt F)),
    StableHlo.binary main_v7_2 main_while0b_v24 main_while0b_v25 (addi : (⟨S32, .i32⟩ : BufTy).Contents (Elt F) → (⟨S32, .i32⟩ : BufTy).Contents (Elt F) → (⟨S32, .i32⟩ : BufTy).Contents (Elt F)),
    StableHlo.ternary main_while0b_v23 main_while0b_v25 main_v7_2 main_while0b_v26 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_while0b_c_16 (constantI S_ 32 0#32),
    StableHlo.unary main_while0b_c_16 main_while0b_v27 (broadcastInDim S32 ![] bcast_S_S32 : (⟨S_, .i32⟩ : BufTy).Contents (Elt F) → (⟨S32, .i32⟩ : BufTy).Contents (Elt F)),
    StableHlo.binary main_while0b_v21 main_while0b_v27 main_while0b_v28 (cmpi .slt : (⟨S32, .i32⟩ : BufTy).Contents (Elt F) → (⟨S32, .i32⟩ : BufTy).Contents (Elt F) → (⟨S32, .i1⟩ : BufTy).Contents (Elt F)),
    StableHlo.nullary main_while0b_c_17 (constantI S_ 32 256#32),
    StableHlo.unary main_while0b_c_17 main_while0b_v29 (broadcastInDim S32 ![] bcast_S_S32 : (⟨S_, .i32⟩ : BufTy).Contents (Elt F) → (⟨S32, .i32⟩ : BufTy).Contents (Elt F)),
    StableHlo.binary main_while0b_v21 main_while0b_v29 main_while0b_v30 (addi : (⟨S32, .i32⟩ : BufTy).Contents (Elt F) → (⟨S32, .i32⟩ : BufTy).Contents (Elt F) → (⟨S32, .i32⟩ : BufTy).Contents (Elt F)),
    StableHlo.ternary main_while0b_v28 main_while0b_v30 main_while0b_v21 main_while0b_v31 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_while0b_v26 main_while0b_v32 (broadcastInDim S32x1 ![0] bcast_S32_S32x1_0 : (⟨S32, .i32⟩ : BufTy).Contents (Elt F) → (⟨S32x1, .i32⟩ : BufTy).Contents (Elt F)),
    StableHlo.unary main_while0b_v31 main_while0b_v33 (broadcastInDim S32x1 ![0] bcast_S32_S32x1_0 : (⟨S32, .i32⟩ : BufTy).Contents (Elt F) → (⟨S32x1, .i32⟩ : BufTy).Contents (Elt F)),
    StableHlo.binary main_while0b_v32 main_while0b_v33 main_while0b_v34 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.binary main_v7_4 main_while0b_v34 main_while0b_v35 ((fun x i => Host.gather gather_S32x256x256_S32x2_S32x256_1_01_n_n_01_1_11256 x i) : (⟨S32x256x256, .f32⟩ : BufTy).Contents (Elt F) → (⟨S32x2, .i32⟩ : BufTy).Contents (Elt F) → (⟨S32x256, .f32⟩ : BufTy).Contents (Elt F)) ]

/-- The arg-max of those rows. -/
abbrev firstOps : Line F :=
  [ StableHlo.TRef.nullary (.of main_while0b_call3_v0 : StableHlo.TRef sig ⟨S32x256, .i32⟩) (iotaInDim S32x256 32 1),
    StableHlo.TRef.nullary (.of main_while0b_call3_cst : StableHlo.TRef sig ⟨S_, .f32⟩) (constant S_ .f32 0xFF800000#32),
    StableHlo.TRef.nullary (.of main_while0b_call3_c : StableHlo.TRef sig ⟨S_, .i32⟩) (constantI S_ 32 0#32),
    StableHlo.TRef.quaternary (.of main_while0b_v35 : StableHlo.TRef sig ⟨S32x256, .f32⟩) (.of main_while0b_call3_v0 : StableHlo.TRef sig ⟨S32x256, .i32⟩) (.of main_while0b_call3_cst : StableHlo.TRef sig ⟨S_, .f32⟩) (.of main_while0b_call3_c : StableHlo.TRef sig ⟨S_, .i32⟩) (.of main_while0b_call3_v1_0 : StableHlo.TRef sig ⟨S32, .f32⟩) (fun x y u v j => (Host.argReduce reducer_argmax_f32_i32 x y u v reducesTo_S32x256_S32_d1 h_S_ j).1),
    StableHlo.TRef.quaternary (.of main_while0b_v35 : StableHlo.TRef sig ⟨S32x256, .f32⟩) (.of main_while0b_call3_v0 : StableHlo.TRef sig ⟨S32x256, .i32⟩) (.of main_while0b_call3_cst : StableHlo.TRef sig ⟨S_, .f32⟩) (.of main_while0b_call3_c : StableHlo.TRef sig ⟨S_, .i32⟩) (.of main_while0b_v36 : StableHlo.TRef sig ⟨S32, .i32⟩) (fun x y u v j => (Host.argReduce reducer_argmax_f32_i32 x y u v reducesTo_S32x256_S32_d1 h_S_ j).2) ]

/-- The update of the last row, and the count. -/
abbrev putOps : Line F :=
  [ StableHlo.unary main_while0b_v13 main_while0b_v37 (broadcastInDim S32 ![] bcast_S_S32 : (⟨S_, .i32⟩ : BufTy).Contents (Elt F) → (⟨S32, .i32⟩ : BufTy).Contents (Elt F)),
    StableHlo.binary main_while0b_v36 main_while0b_v37 main_while0b_v38 (cmpi .ne : (⟨S32, .i32⟩ : BufTy).Contents (Elt F) → (⟨S32, .i32⟩ : BufTy).Contents (Elt F) → (⟨S32, .i1⟩ : BufTy).Contents (Elt F)),
    StableHlo.unary main_while0b_v38 main_while0b_v39 (uitofp .f32 : (⟨S32, .i1⟩ : BufTy).Contents (Elt F) → (⟨S32, .f32⟩ : BufTy).Contents (Elt F)),
    StableHlo.nullary main_while0b_c_18 (constantI S_ 32 0#32),
    StableHlo.binary main_while0b_v13 main_while0b_c_18 main_while0b_v40 (cmpi .slt : (⟨S_, .i32⟩ : BufTy).Contents (Elt F) → (⟨S_, .i32⟩ : BufTy).Contents (Elt F) → (⟨S_, .i1⟩ : BufTy).Contents (Elt F)),
    StableHlo.nullary main_while0b_c_19 (constantI S_ 32 256#32),
    StableHlo.binary main_while0b_v13 main_while0b_c_19 main_while0b_v41 (addi : (⟨S_, .i32⟩ : BufTy).Contents (Elt F) → (⟨S_, .i32⟩ : BufTy).Contents (Elt F) → (⟨S_, .i32⟩ : BufTy).Contents (Elt F)),
    StableHlo.ternary main_while0b_v40 main_while0b_v41 main_while0b_v13 main_while0b_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_20 (constantI S_ 32 255#32),
    StableHlo.unary main_while0b_c_20 main_while0b_v43 (broadcastInDim S1 ![] bcast_S_S1 : (⟨S_, .i32⟩ : BufTy).Contents (Elt F) → (⟨S1, .i32⟩ : BufTy).Contents (Elt F)),
    StableHlo.unary main_while0b_v42 main_while0b_v44 (broadcastInDim S1 ![] bcast_S_S1 : (⟨S_, .i32⟩ : BufTy).Contents (Elt F) → (⟨S1, .i32⟩ : BufTy).Contents (Elt F)),
    StableHlo.binary main_while0b_v43 main_while0b_v44 main_while0b_v45 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v7_4 main_while0b_v45 main_while0b_v39 main_while0b_v46 ((fun x i u => Host.scatter scatter_S32x256x256_S2_S32_0_12_12_0 (fun _ b => b) x i u) : (⟨S32x256x256, .f32⟩ : BufTy).Contents (Elt F) → (⟨S2, .i32⟩ : BufTy).Contents (Elt F) → (⟨S32, .f32⟩ : BufTy).Contents (Elt F) → (⟨S32x256x256, .f32⟩ : BufTy).Contents (Elt F)),
    StableHlo.nullary main_while0b_c_21 (constantI S_ 32 1#32),
    StableHlo.binary main_v7_3 main_while0b_c_21 main_while0b_v47 (addi : (⟨S_, .i32⟩ : BufTy).Contents (Elt F) → (⟨S_, .i32⟩ : BufTy).Contents (Elt F) → (⟨S_, .i32⟩ : BufTy).Contents (Elt F)),
    StableHlo.unary main_while0b_v47 main_v7_3 id,
    StableHlo.unary main_while0b_v46 main_v7_4 id ]

theorem main_chain (c : Dev nD) : main (F := F) c = (Pipeline.chain
  [ StableHlo.seq markOps,
    StableHlo.seq whereOps,
    StableHlo.seq argmaxOps,
    StableHlo.seq enterOps,
    HostLoop.enter 0,
    StableHlo.seq unmarkOps,
    StableHlo.seq unwhereOps,
    StableHlo.seq cutOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons]
  chain_rfl

theorem while0_body_chain : main_while0_body (F := F) = (Pipeline.chain
  [ StableHlo.seq columnOps,
    StableHlo.seq wrapOps,
    StableHlo.seq rowOps,
    StableHlo.seq lookOps,
    StableHlo.seq firstOps,
    StableHlo.seq putOps ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, StableHlo.chain_seq_cons, StableHlo.chain_seq_cons, Pipeline.chain_cons,
    StableHlo.chain_seq_cons]
  chain_rfl

/-! The buffers that each stretch of the loop writes. -/

abbrev columnW : List (Ref sig .tc) :=
  [main_while0b_call2_v0, main_while0b_v13]

abbrev wrapW : List (Ref sig .tc) :=
  [main_while0b_c_7, main_while0b_c_8, main_while0b_v14, main_while0b_c_9, main_while0b_c_10, main_while0b_v15,
    main_while0b_c_11, main_while0b_v16, main_while0b_c_12, main_while0b_v17, main_while0b_c_13, main_while0b_v18,
    main_while0b_v19]

abbrev rowW : List (Ref sig .tc) :=
  [main_while0b_v20, main_while0b_v21]

abbrev lookW : List (Ref sig .tc) :=
  [main_while0b_c_14, main_while0b_v22, main_while0b_v23, main_while0b_c_15, main_while0b_v24, main_while0b_v25,
    main_while0b_v26, main_while0b_c_16, main_while0b_v27, main_while0b_v28, main_while0b_c_17, main_while0b_v29,
    main_while0b_v30, main_while0b_v31, main_while0b_v32, main_while0b_v33, main_while0b_v34, main_while0b_v35]

abbrev firstW : List (Ref sig .tc) :=
  [main_while0b_call3_v0, main_while0b_call3_cst, main_while0b_call3_c, main_while0b_call3_v1_0, main_while0b_v36]

abbrev putW : List (Ref sig .tc) :=
  [main_while0b_v37, main_while0b_v38, main_while0b_v39, main_while0b_c_18, main_while0b_v40, main_while0b_c_19,
    main_while0b_v41, main_while0b_v42, main_while0b_c_20, main_while0b_v43, main_while0b_v44, main_while0b_v45,
    main_while0b_v46, main_while0b_c_21, main_while0b_v47, main_v7_3, main_v7_4]

abbrev condW : List (Ref sig .tc) := [main_while0c_c_7, main_while0c_v13]

/-! The buffers written before the loop, after it, and by the last stretch. -/

abbrev beforeW : List (Ref sig .tc) :=
  [main_v0, main_cst, main_v1, main_v2, main_cst_0, main_call0_v0, main_call0_v1, main_v3, main_call1_v0,
    main_call1_cst, main_call1_c, main_call1_v1_0, main_v4, main_v5, main_v6, main_c, main_v7_0, main_v7_1, main_v7_2,
    main_v7_3, main_v7_4]

abbrev cutW : List (Ref sig .tc) :=
  [main_v11, main_v12]

abbrev behindW : List (Ref sig .tc) :=
  [main_cst_1, main_v8, main_v9, main_cst_2, main_call4_v0, main_call4_v1, main_v10, main_v11, main_v12]

/-- The loop's condition: the trip's number below 255. -/
abbrev condOps : Line F :=
  [ StableHlo.nullary main_while0c_c_7 (constantI S_ 32 255#32),
    StableHlo.binary main_v7_3 main_while0c_c_7 main_while0c_v13 (cmpi .slt) ]

/-- The stretches before the loop, of its body, and after it. -/
abbrev before : List (Line F) := [markOps, whereOps, argmaxOps, enterOps]
abbrev body : List (Line F) := [columnOps, wrapOps, rowOps, lookOps, firstOps, putOps]
abbrev behind : List (Line F) := [unmarkOps, unwhereOps, cutOps]

/-- One stretch: each operation is on the core's own buffers, and none allocates one. -/
theorem plain_cons {ops : Line F} {rest : List (Line F)} (hs : ops.Forall fun op => op.bufs ⊆ tcRefs τ sig)
    (hf : ops.map HloOp.fresh = ops.map fun _ => ∅) (h : Plain rest) : Plain (ops :: rest) :=
  .cons hs h (hf := List.forall_iff_forall_mem.mp (forall_fresh_of_map hf))

theorem plain : Plain (before (F := F)) ∧ Plain (body (F := F)) ∧ Plain (behind (F := F)) := by
  refine ⟨?_, ?_, ?_⟩
  all_goals repeat' refine plain_cons ?_ rfl ?_
  all_goals first
    | exact .nil
    | simp only [List.Forall, nullary_bufs_sub, unary_bufs_sub, binary_bufs_sub, ternary_bufs_sub, quaternary_bufs_sub,
        unaryIndexed_bufs_sub, reshape_bufs_sub, and_self]

end Cert.ReferenceIdeal.Lines

end
-- ==== Proof.RefTrip.lean ====
/- What the reference's lines compute, as functions: the marked products, each column's arg-max, one trip of the loop, and the
   two results of the last matrix. -/
module

public import proofs.«01_k».proof.ReferenceIdeal
public import proofs.«01_k».proof.Proof.Gen.ReferenceIdeal

@[expose] public section

noncomputable section

namespace Cert.ReferenceIdeal.Trip

open Idealize.ShloMosaic Cert.ReferenceIdeal Cert.ReferenceIdeal.Gen

variable {F : FTy → Type} [FloatOps F]

/-- The contents of an array of shape `S` and element type `e`. -/
abbrev Arr (F : FTy → Type) [FloatOps F] (S : Shape) (e : EltTy) := (⟨S, e⟩ : BufTy).Contents (Elt F)

/-! ## Before the loop -/

/-- The products. -/
def products (x : Arr F S32x256x2048 .f32) (w : Arr F S256x2048 .f32) : Arr F S32x256x256 .f32 :=
  Host.dotGeneral dot_S32x256x2048_S256x2048_S32x256x256_2_1_01_0_n_n none x w

/-- The same, −1 where they are 0. -/
def marked (x : Arr F S32x256x2048 .f32) (w : Arr F S256x2048 .f32) : Arr F S32x256x256 .f32 :=
  select (cmpf .oeq (products x w) (broadcastInDim S32x256x256 ![] bcast_S_S32x256x256 (constant S_ .f32 0x00000000#32)))
    (broadcastInDim S32x256x256 ![] bcast_S_S32x256x256 (constant S_ .f32 0xBF800000#32)) (products x w)

/-- The row of each column's arg-max. -/
def topRows (v : Arr F S32x256x256 .f32) : Arr F S32x256 .i32 := fun q =>
  (Host.argReduce reducer_argmax_f32_i32 v (iotaInDim S32x256x256 32 1) (constant S_ .f32 0xFF800000#32) (constantI S_ 32 0#32)
    reducesTo_S32x256x256_S32x256_d1 h_S_ q).2

/-! ## One trip -/

/-- A scalar index counted from the end, of `n`, where it is negative. -/
def wrap (n : BitVec 32) (i : Arr F S_ .i32) : Arr F S_ .i32 :=
  select (cmpi .slt i (constantI S_ 32 0#32)) (addi i (constantI S_ 32 n)) i

/-- The same of one index for each batch. -/
def wraps (n : BitVec 32) (i : Arr F S32 .i32) : Arr F S32 .i32 :=
  select (cmpi .slt i (broadcastInDim S32 ![] bcast_S_S32 (constantI S_ 32 0#32)))
    (addi i (broadcastInDim S32 ![] bcast_S_S32 (constantI S_ 32 n))) i

/-- The column of trip `n`, from the list of them. -/
def column (cols : Arr F S255 .i32) (n : Arr F S_ .i32) : Arr F S_ .i32 :=
  shapeCast S_ (Host.dynamicSlice S1 cols (fun k => ((![n] : Fin 1 → Arr F S_ .i32) k (Shape.Idx.first h_S_)).toInt) sliceFits_S255_S1)
    shapeCasts_S1_S_

/-- Column `i` of `top`, one row for each batch; `z` is the first batch. -/
def rowsOf (top : Arr F S32x256 .i32) (z i : Arr F S_ .i32) : Arr F S32 .i32 :=
  shapeCast S32 (Host.dynamicSlice S32x1 top (fun k => ((![z, i] : Fin 2 → Arr F S_ .i32) k (Shape.Idx.first h_S_)).toInt)
    sliceFits_S32x256_S32x1) shapeCasts_S32x1_S32

/-- The pairs of a batch and a row that the trip reads at. -/
def places (lanes rows : Arr F S32 .i32) : Arr F S32x2 .i32 :=
  concatenate S32x2 1 [⟨S32x1, (broadcastInDim S32x1 ![0] bcast_S32_S32x1_0 (wraps 32#32 lanes) : Arr F S32x1 .i32)⟩,
    ⟨S32x1, (broadcastInDim S32x1 ![0] bcast_S32_S32x1_0 (wraps 256#32 rows) : Arr F S32x1 .i32)⟩] concatenates_S32x1_S32x1_S32x2_d1

/-- The rows there. -/
def look (v : Arr F S32x256x256 .f32) (lanes rows : Arr F S32 .i32) : Arr F S32x256 .f32 :=
  Host.gather gather_S32x256x256_S32x2_S32x256_1_01_n_n_01_1_11256 v (places lanes rows)

/-- The arg-max of each row. -/
def firsts (u : Arr F S32x256 .f32) : Arr F S32 .i32 := fun q =>
  (Host.argReduce reducer_argmax_f32_i32 u (iotaInDim S32x256 32 1) (constant S_ .f32 0xFF800000#32) (constantI S_ 32 0#32)
    reducesTo_S32x256_S32_d1 h_S_ q).2

/-- What is written: whether the arg-max is not the trip's column. -/
def update (i : Arr F S_ .i32) (f : Arr F S32 .i32) : Arr F S32 .f32 :=
  uitofp .f32 (cmpi .ne f (broadcastInDim S32 ![] bcast_S_S32 i))

/-- Where it is written: the last row, the trip's column. -/
def target (i : Arr F S_ .i32) : Arr F S2 .i32 :=
  concatenate S2 0 [⟨S1, (broadcastInDim S1 ![] bcast_S_S1 (constantI S_ 32 255#32) : Arr F S1 .i32)⟩,
    ⟨S1, (broadcastInDim S1 ![] bcast_S_S1 (wrap 256#32 i) : Arr F S1 .i32)⟩] concatenates_S1_S1_S2_d0

/-- The matrix after the write. -/
def put (v : Arr F S32x256x256 .f32) (i : Arr F S_ .i32) (f : Arr F S32 .i32) : Arr F S32x256x256 .f32 :=
  Host.scatter scatter_S32x256x256_S2_S32_0_12_12_0 (fun _ b => b) v (target i) (update i f)

/-- The column of trip `j`. -/
def col (j : ℕ) : Arr F S_ .i32 := column (iotaInDim S255 32 0) (constantI S_ 32 (BitVec.ofNat 32 j))

/-- Trip `j`. -/
def trip (top : Arr F S32x256 .i32) (j : ℕ) (v : Arr F S32x256x256 .f32) : Arr F S32x256x256 .f32 :=
  put v (col j) (firsts (look v (iotaInDim S32 32 0) (rowsOf top (wrap 32#32 (constantI S_ 32 0#32)) (wrap 256#32 (col j)))))

/-- The matrix after `n` trips. -/
def states (x : Arr F S32x256x2048 .f32) (w : Arr F S256x2048 .f32) : ℕ → Arr F S32x256x256 .f32
  | 0 => marked x w
  | n + 1 => trip (topRows (marked x w)) n (states x w n)

/-! ## After the loop -/

/-- The first result: 0 where the matrix is −1. -/
def unmarked (v : Arr F S32x256x256 .f32) : Arr F S32x256x256 .f32 :=
  select (cmpf .oeq v (broadcastInDim S32x256x256 ![] bcast_S_S32x256x256 (constant S_ .f32 0xBF800000#32)))
    (broadcastInDim S32x256x256 ![] bcast_S_S32x256x256 (constant S_ .f32 0x00000000#32)) v

/-- The second result: all of the first but its last column, the column axis first. -/
def columns (v : Arr F S32x256x256 .f32) : Arr F S255x32x256 .f32 :=
  transpose S255x32x256 [2, 0, 1] (extractStridedSlice S32x256x255 ![0, 0, 0] (unmarked v) slices_S32x256x256_S32x256x255_0_0_0)
    transposes_S32x256x255_S255x32x256_2_0_1

end Cert.ReferenceIdeal.Trip

end
-- ==== Proof.RowMath.lean ====
/- The mathematics the two programs share, on one batch's matrix of extended reals: the first position of a row's
   maximum, the column-by-column update of the last row, and the closed form that gives the same row at once. -/
module

public import Mathlib.Data.EReal.Operations
public import Mathlib.Data.Finset.Max
public import Mathlib.Order.Interval.Finset.Fin
public import Mathlib.Tactic.NormNum

@[expose] public section

noncomputable section

namespace Cert.RowMath

/-- The last row's number. -/
abbrev last : Fin 256 := ⟨255, by decide⟩

/-- `k` is the first position where `f` is largest. -/
def IsFirstMax (f : Fin 256 → EReal) (k : Fin 256) : Prop := (∀ j, f j ≤ f k) ∧ ∀ j, j < k → f j < f k

theorem IsFirstMax.unique {f : Fin 256 → EReal} {k l : Fin 256} (hk : IsFirstMax f k) (hl : IsFirstMax f l) : k = l := by
  rcases lt_trichotomy k l with h | h | h
  · exact absurd (hl.2 k h) (not_lt.mpr (hk.1 l))
  · exact h
  · exact absurd (hk.2 l h) (not_lt.mpr (hl.1 k))

theorem exists_isFirstMax (f : Fin 256 → EReal) : ∃ k, IsFirstMax f k := by
  obtain ⟨m, -, hm⟩ := Finset.exists_max_image Finset.univ f ⟨last, Finset.mem_univ _⟩
  have hne : (Finset.univ.filter fun k : Fin 256 => ∀ j, f j ≤ f k).Nonempty := ⟨m, by simpa using hm⟩
  refine ⟨Finset.min' _ hne, ?_, fun j hj => ?_⟩
  · have := Finset.min'_mem _ hne
    simpa using this
  · have h1 := Finset.min'_mem _ hne
    have h1 : ∀ i, f i ≤ f (Finset.min' _ hne) := by simpa using h1
    refine lt_of_le_of_ne (h1 j) fun he => ?_
    have hmem : j ∈ Finset.univ.filter fun k : Fin 256 => ∀ j, f j ≤ f k := by
      simp only [Finset.mem_filter, Finset.mem_univ, true_and]
      intro i; rw [he]; exact h1 i
    exact absurd (Finset.min'_le _ j hmem) (not_le.mpr hj)

/-- The first position where `f` is largest. -/
def firstMax (f : Fin 256 → EReal) : Fin 256 := (exists_isFirstMax f).choose

theorem firstMax_spec (f : Fin 256 → EReal) : IsFirstMax f (firstMax f) := (exists_isFirstMax f).choose_spec

theorem IsFirstMax.eq {f : Fin 256 → EReal} {k : Fin 256} (h : IsFirstMax f k) : firstMax f = k := (firstMax_spec f).unique h

theorem firstMax_eq_iff (f : Fin 256 → EReal) (k : Fin 256) : firstMax f = k ↔ IsFirstMax f k :=
  ⟨fun h => h ▸ firstMax_spec f, IsFirstMax.eq⟩

open Classical in
/-- A truth value as the number the programs write. -/
def num (p : Prop) : EReal := if p then 1 else 0

theorem num_true {p : Prop} (h : p) : num p = 1 := if_pos h
theorem num_false {p : Prop} (h : ¬p) : num p = 0 := if_neg h
theorem num_congr {p q : Prop} (h : p ↔ q) : num p = num q := by rw [propext h]

theorem num_lt_iff (p : Prop) (x : EReal) : num p < x ↔ 0 < x ∧ (p → 1 < x) := by
  by_cases h : p
  · rw [num_true h]
    exact ⟨fun hx => ⟨lt_trans zero_lt_one hx, fun _ => hx⟩, fun hx => hx.2 h⟩
  · rw [num_false h]
    exact ⟨fun hx => ⟨hx, fun hp => absurd hp h⟩, fun hx => hx.1⟩

/-! ## The update column by column -/

/-- One step on the matrix: at column `n`, the last row's entry becomes 1 where the row that held the column's
    maximum at the start does not have its own first maximum at `n`, else 0. -/
def stepM (mc : Fin 256 → Fin 256) (n : ℕ) (S : Fin 256 → Fin 256 → EReal) : Fin 256 → Fin 256 → EReal :=
  fun r o => if r = last ∧ o.val = n then num (firstMax (S (mc o)) ≠ o) else S r o

/-- The matrix before column `n`. -/
def iterM (mc : Fin 256 → Fin 256) (M : Fin 256 → Fin 256 → EReal) : ℕ → Fin 256 → Fin 256 → EReal
  | 0 => M
  | n + 1 => stepM mc n (iterM mc M n)

/-! ## The closed form -/

section Closed
variable (M : Fin 256 → Fin 256 → EReal)

/-- The row of column `o`'s first maximum. -/
def mcol (o : Fin 256) : Fin 256 := firstMax fun r => M r o

/-- Column `o`'s row does not have its first maximum at `o`. -/
def stat (o : Fin 256) : Prop := firstMax (M (mcol M o)) ≠ o

/-- No entry of the last row after `o` is above the one at `o`. -/
def top (o : Fin 256) : Prop := ∀ j, o ≤ j → M last j ≤ M last o

/-- What an entry must exceed while no 1 has been written. -/
def thresh (o : Fin 256) : EReal := if o.val = 0 then ⊥ else 0

def pre (o : Fin 256) : Prop := if mcol M o = last then ¬(top M o ∧ thresh o < M last o) else stat M o
def post (o : Fin 256) : Prop := if mcol M o = last then ¬(top M o ∧ 1 < M last o) else stat M o

open Classical in
/-- Whether the closed form writes 1 at column `o`. -/
def closed (o : Fin 256) : Prop := if ∃ j, j < o ∧ pre M j then post M o else pre M o

theorem exists_closed_iff (o : Fin 256) : (∃ j, j < o ∧ closed M j) ↔ ∃ j, j < o ∧ pre M j := by
  constructor
  · rintro ⟨j, hj, hc⟩
    unfold closed at hc
    split at hc
    · next h => obtain ⟨i, hi, hp⟩ := h; exact ⟨i, hi.trans hj, hp⟩
    · exact ⟨j, hj, hc⟩
  · rintro ⟨j, hj, hp⟩
    induction j using WellFoundedLT.induction with
    | ind j ih =>
      by_cases h : ∃ i, i < j ∧ pre M i
      · obtain ⟨i, hi, hpi⟩ := h
        exact ih i hi (hi.trans hj) hpi
      · refine ⟨j, hj, ?_⟩
        unfold closed; rw [if_neg h]; exact hp

theorem iterM_other (mc : Fin 256 → Fin 256) (n : ℕ) (r : Fin 256) (hr : r ≠ last) (o : Fin 256) :
    iterM mc M n r o = M r o := by
  induction n with
  | zero => rfl
  | succ n ih => show stepM _ _ _ _ _ = _; unfold stepM; rw [if_neg fun h => hr h.1]; exact ih

/-- Before column `n` the last row holds the closed form's numbers up to `n` and the product's entries from there. -/
theorem iterM_last (n : ℕ) (o : Fin 256) :
    iterM (mcol M) M n last o = if o.val < n then num (closed M o) else M last o := by
  induction n generalizing o with
  | zero => rfl
  | succ n ih =>
    show stepM _ _ _ _ _ = _
    unfold stepM
    by_cases ho : o.val = n
    · rw [if_pos ⟨rfl, ho⟩, if_pos (by omega)]
      refine num_congr ?_
      by_cases hm : mcol M o = last
      · rw [hm]
        have hrow : iterM (mcol M) M n last = fun j => if j.val < n then num (closed M j) else M last j := funext ih
        rw [hrow, ne_eq, firstMax_eq_iff]
        have hat : (if o.val < n then num (closed M o) else M last o) = M last o := if_neg (by omega)
        have key : IsFirstMax (fun j : Fin 256 => if j.val < n then num (closed M j) else M last j) o
            ↔ top M o ∧ ∀ j, j < o → num (closed M j) < M last o := by
          unfold IsFirstMax top
          simp only [hat]
          constructor
          · rintro ⟨h1, h2⟩
            refine ⟨fun j hj => ?_, fun j hj => ?_⟩
            · have := h1 j; rwa [if_neg (by have : o.val ≤ j.val := hj; omega)] at this
            · have := h2 j hj; rwa [if_pos (by have : j.val < o.val := hj; omega)] at this
          · rintro ⟨h1, h2⟩
            refine ⟨fun j => ?_, fun j hj => ?_⟩
            · by_cases hj : j.val < n
              · rw [if_pos hj]; exact (h2 j (by show j.val < o.val; omega)).le
              · rw [if_neg hj]; exact h1 j (by show o.val ≤ j.val; omega)
            · rw [if_pos (by have : j.val < o.val := hj; omega)]; exact h2 j hj
        rw [key]
        have hfm : IsFirstMax (fun r => M r o) last := by have := firstMax_spec fun r => M r o; rwa [show firstMax (fun r => M r o) = last from hm] at this
        have hbot : ⊥ < M last o := lt_of_le_of_lt bot_le (hfm.2 ⟨0, by decide⟩ (by decide))
        have hall : (∀ j, j < o → num (closed M j) < M last o)
            ↔ thresh o < M last o ∧ ((∃ j, j < o ∧ pre M j) → 1 < M last o) := by
          rw [← exists_closed_iff]
          simp only [num_lt_iff]
          unfold thresh
          by_cases h0 : o.val = 0
          · rw [if_pos h0]
            have hno : ∀ j : Fin 256, ¬ j < o := fun j hj => by have : j.val < o.val := hj; omega
            exact ⟨fun _ => ⟨hbot, fun ⟨j, hj, _⟩ => absurd hj (hno j)⟩, fun _ j hj => absurd hj (hno j)⟩
          · rw [if_neg h0]
            constructor
            · intro h
              exact ⟨(h ⟨0, by decide⟩ (by show 0 < o.val; omega)).1, fun ⟨j, hj, hc⟩ => (h j hj).2 hc⟩
            · rintro ⟨h1, h2⟩ j hj
              exact ⟨h1, fun hc => h2 ⟨j, hj, hc⟩⟩
        rw [hall]
        unfold closed pre post
        rw [if_pos hm]
        by_cases he : ∃ j, j < o ∧ pre M j
        · have he' := he
          unfold pre at he'
          rw [if_pos he']
          have h10 : 1 < M last o → thresh o < M last o := fun h => by
            unfold thresh; split
            · exact hbot
            · exact lt_trans zero_lt_one h
          exact not_congr ⟨fun h => ⟨h.1, h.2.2 he⟩, fun h => ⟨h.1, h10 h.2, fun _ => h.2⟩⟩
        · have he' := he
          unfold pre at he'
          rw [if_neg he', if_pos hm]
          exact not_congr ⟨fun h => ⟨h.1, h.2.1⟩, fun h => ⟨h.1, h.2, fun h' => absurd h' he⟩⟩
      · have hrow : iterM (mcol M) M n (mcol M o) = M (mcol M o) := funext fun j => iterM_other M _ n _ hm j
        rw [hrow]
        unfold closed pre post
        rw [if_neg hm, if_neg hm, ite_self]
        rfl
    · rw [if_neg fun h => ho h.2, ih]
      by_cases h : o.val < n
      · rw [if_pos h, if_pos (by omega)]
      · rw [if_neg h, if_neg (by omega)]

end Closed

/-! ## What both programs end with -/

/-- An entry as both programs return it: -1 read back as 0. -/
def unmark (x : EReal) : EReal := if x = -1 then 0 else x

theorem neg_one_lt_zero : (-1 : EReal) < 0 := by
  have h : ((-1 : ℝ) : EReal) < ((0 : ℝ) : EReal) := EReal.coe_lt_coe_iff.mpr (by norm_num)
  simpa using h

theorem unmark_num (p : Prop) : unmark (num p) = num p := by
  unfold unmark
  refine if_neg ?_
  by_cases h : p
  · rw [num_true h]; exact (neg_one_lt_zero.trans zero_lt_one).ne'
  · rw [num_false h]; exact neg_one_lt_zero.ne'

open Classical in
/-- The final matrix: the closed form's numbers in the last row before its last column, the product elsewhere. -/
def final (M : Fin 256 → Fin 256 → EReal) (r o : Fin 256) : EReal :=
  if r = last ∧ o.val < 255 then num (closed M o) else unmark (M r o)

theorem unmark_iterM (M : Fin 256 → Fin 256 → EReal) (r o : Fin 256) :
    unmark (iterM (mcol M) M 255 r o) = final M r o := by
  unfold final
  by_cases hr : r = last
  · subst hr
    rw [iterM_last]
    by_cases ho : o.val < 255
    · rw [if_pos ho, if_pos ⟨rfl, ho⟩, unmark_num]
    · rw [if_neg ho, if_neg fun h => ho h.2]
  · rw [iterM_other M _ _ r hr, if_neg fun h => hr h.1]

end Cert.RowMath

end
-- ==== Proof.FirstMax.lean ====
/- The first position of a maximum as each program computes it: the reference by folding a two-operand reduction over
   (value, position) pairs, the kernel by the least position among those that equal the maximum. -/
module

public import proofs.«01_k».proof.ReferenceIdeal
public import proofs.«01_k».proof.Proof.RowMath
public import Idealize.ShloMosaic.PureOps.Ideal.Laws
public import Idealize.ShloMosaic.Lib.WordCmp
public import Idealize.ShloMosaic.Lib.Pointwise.SelectCore

@[expose] public section

noncomputable section

namespace Cert.FirstMax

open Idealize.ShloMosaic Cert.RowMath

/-! ## The words of the positions -/

theorem toInt_ofNat (n : ℕ) (h : n < 512) : (BitVec.ofNat 32 n).toInt = (n : ℤ) :=
  WordCmp.toInt_ofNat_of_lt (by omega)

theorem ofNat_inj {a b : ℕ} (ha : a < 512) (hb : b < 512) : BitVec.ofNat 32 a = BitVec.ofNat 32 b ↔ a = b :=
  WordCmp.ofNat_eq_ofNat_iff (by omega) (by omega)

/-! ## The two-operand reduction -/

/-- `p` is at most `r`: smaller in value, or of the same value and not earlier. -/
def Below (p r : EReal × BitVec 32) : Prop := p.1 < r.1 ∨ (p.1 = r.1 ∧ r.2.toInt ≤ p.2.toInt)

theorem Below.refl (p : EReal × BitVec 32) : Below p p := Or.inr ⟨rfl, le_refl _⟩

theorem Below.trans {p q r : EReal × BitVec 32} (h : Below p q) (h' : Below q r) : Below p r := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

/-- The reducer keeps one of its two pairs, and both are at most the one it keeps. -/
theorem reducer_spec (a b : EReal × BitVec 32) :
    (Cert.ReferenceIdeal.reducer_argmax_f32_i32 (F := Ideal) a b = a ∨ Cert.ReferenceIdeal.reducer_argmax_f32_i32 (F := Ideal) a b = b)
      ∧ Below a (Cert.ReferenceIdeal.reducer_argmax_f32_i32 (F := Ideal) a b)
      ∧ Below b (Cert.ReferenceIdeal.reducer_argmax_f32_i32 (F := Ideal) a b) := by
  have e : Cert.ReferenceIdeal.reducer_argmax_f32_i32 (F := Ideal) a b
      = (if b.1 < a.1 then a.1 else b.1, if b.1 < a.1 ∨ (a.1 = b.1 ∧ a.2.toInt < b.2.toInt) then a.2 else b.2) := by
    unfold Cert.ReferenceIdeal.reducer_argmax_f32_i32
    simp only [Ideal.cmpf_def, Ideal.cmp, WordCmp.cmpi_slt_eq, WordCmp.ori_ofBool, WordCmp.andi_ofBool, Scalar.select_ofBool]
    simp
  rw [e]
  obtain ⟨a1, a2⟩ := a
  obtain ⟨b1, b2⟩ := b
  dsimp only
  rcases lt_trichotomy b1 a1 with h | h | h
  · rw [if_pos h, if_pos (Or.inl h)]
    exact ⟨Or.inl rfl, Below.refl _, Or.inl h⟩
  · subst h
    by_cases k : a2.toInt < b2.toInt
    · rw [if_neg (lt_irrefl _), if_pos (Or.inr ⟨rfl, k⟩)]
      exact ⟨Or.inl rfl, Below.refl _, Or.inr ⟨rfl, k.le⟩⟩
    · rw [if_neg (lt_irrefl _), if_neg (by rintro (h | h); exacts [lt_irrefl _ h, k h.2])]
      exact ⟨Or.inr rfl, Or.inr ⟨rfl, not_lt.mp k⟩, Below.refl _⟩
  · rw [if_neg (not_lt.mpr h.le), if_neg (by rintro (q | q); exacts [not_lt.mpr h.le q, h.ne q.1])]
    exact ⟨Or.inr rfl, Or.inl h, Below.refl _⟩

/-- The fold keeps one of its pairs, and every pair is at most the one it keeps. -/
theorem fold_spec (l : List (EReal × BitVec 32)) : ∀ z : EReal × BitVec 32,
    (l.foldl (Cert.ReferenceIdeal.reducer_argmax_f32_i32 (F := Ideal)) z = z
        ∨ l.foldl (Cert.ReferenceIdeal.reducer_argmax_f32_i32 (F := Ideal)) z ∈ l)
      ∧ Below z (l.foldl (Cert.ReferenceIdeal.reducer_argmax_f32_i32 (F := Ideal)) z)
      ∧ ∀ p ∈ l, Below p (l.foldl (Cert.ReferenceIdeal.reducer_argmax_f32_i32 (F := Ideal)) z) := by
  induction l with
  | nil => exact fun z => ⟨Or.inl rfl, Below.refl _, fun p hp => absurd hp (List.not_mem_nil)⟩
  | cons b l ih =>
    intro z
    obtain ⟨h1, h2, h3⟩ := ih (Cert.ReferenceIdeal.reducer_argmax_f32_i32 (F := Ideal) z b)
    obtain ⟨g1, g2, g3⟩ := reducer_spec z b
    rw [List.foldl_cons]
    refine ⟨?_, g2.trans h2, fun p hp => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.mp hp with rfl | hp
      · exact g3.trans h2
      · exact h3 p hp

/-- The best of 256 (value, position) pairs carries the position of the first maximum. -/
theorem best_position (f : Fin 256 → EReal) (r : EReal × BitVec 32)
    (hr : r = (⊥, 0#32) ∨ ∃ k : Fin 256, r = (f k, BitVec.ofNat 32 k.val))
    (hb : ∀ k : Fin 256, Below (f k, BitVec.ofNat 32 k.val) r) : r.2 = BitVec.ofNat 32 (firstMax f).val := by
  rcases hr with rfl | ⟨k, rfl⟩
  · have e : firstMax f = (⟨0, by decide⟩ : Fin 256) := by
      refine IsFirstMax.eq ⟨fun j => ?_, fun j hj => absurd hj (Nat.not_lt_zero _)⟩
      rcases hb j with h | h
      · exact absurd h not_lt_bot
      · rw [show f j = ⊥ from h.1]; exact bot_le
    rw [e]
  · have e : firstMax f = k := by
      refine IsFirstMax.eq ⟨fun j => ?_, fun j hj => ?_⟩
      · rcases hb j with h | h
        · exact h.le
        · exact h.1.le
      · rcases hb j with h | h
        · exact h
        · have := h.2
          dsimp only at this
          rw [toInt_ofNat _ (by omega), toInt_ofNat _ (by omega)] at this
          have hj' : j.val < k.val := hj
          omega
    rw [e]

/-- The position part of the reference's reduction at an index whose fiber is the line `g` of 256 elements, each paired with its
    position, from the least value and position 0. -/
theorem argReduce_snd {s t u : Shape} {axes : List (Fin s.rank)} (x : FVec Ideal s .f32) (y : IVec s 32) (ix : FVec Ideal u .f32)
    (iy : IVec u 32) (h : s.ReducesTo axes t) (hu : 0 < u.numel) (j : t.Idx) (g : Fin 256 → s.Idx)
    (hg : ∀ i, h.drop i = j ↔ ∃ k, i = g k) (hy : ∀ k, y (g k) = BitVec.ofNat 32 k.val)
    (hix : ix (Shape.Idx.first hu) = (⊥ : EReal)) (hiy : iy (Shape.Idx.first hu) = 0#32) :
    (Host.argReduce (Cert.ReferenceIdeal.reducer_argmax_f32_i32 (F := Ideal)) x y ix iy h hu j).2
      = BitVec.ofNat 32 (firstMax fun k => x (g k)).val := by
  rw [Ideal.argReduce_eq_reduce2, Host.reduce2_eq_foldl_fiber, hix, hiy]
  obtain ⟨h1, h2, h3⟩ := fold_spec (Host.argReduceFiber x y h j) (⊥, 0#32)
  refine best_position _ _ ?_ fun k => ?_
  · refine h1.imp id fun hm => ?_
    obtain ⟨n, hn, e⟩ := List.mem_map.mp hm
    obtain ⟨k, hk⟩ := (hg _).mp (of_decide_eq_true (List.mem_filter.mp hn).2)
    exact ⟨k, by rw [← e, hk, hy k]⟩
  · refine h3 _ (List.mem_map.mpr ⟨s.rowMajor (g k), List.mem_filter.mpr ⟨List.mem_finRange _, decide_eq_true ?_⟩, ?_⟩)
    · rw [Equiv.symm_apply_apply]; exact (hg _).mpr ⟨k, rfl⟩
    · rw [Equiv.symm_apply_apply, hy k]

/-! ## The least position among the marked ones -/

/-- The signed minimum of two words. -/
theorem minsi_spec (x y : BitVec 32) :
    (IntOp.minsi x y = x ∨ IntOp.minsi x y = y) ∧ (IntOp.minsi x y).toInt ≤ x.toInt ∧ (IntOp.minsi x y).toInt ≤ y.toInt := by
  unfold IntOp.minsi
  by_cases h : x.slt y
  · rw [if_pos h]
    exact ⟨Or.inl rfl, le_refl _, (BitVec.slt_iff_toInt_lt.mp h).le⟩
  · rw [if_neg h]
    exact ⟨Or.inr rfl, not_lt.mp fun q => h (BitVec.slt_iff_toInt_lt.mpr q), le_refl _⟩

/-- The signed minimum of finitely many words: one of them, or the word it started from, and none of them is less. -/
theorem fold_minsi_spec (z : BitVec 32) (g : Fin 256 → BitVec 32) (s : Finset (Fin 256)) :
    (s.fold IntOp.minsi z g = z ∨ ∃ k ∈ s, s.fold IntOp.minsi z g = g k) ∧ (s.fold IntOp.minsi z g).toInt ≤ z.toInt
      ∧ ∀ k ∈ s, (s.fold IntOp.minsi z g).toInt ≤ (g k).toInt := by
  induction s using Finset.induction_on with
  | empty => exact ⟨Or.inl rfl, le_refl _, fun k hk => absurd hk (Finset.notMem_empty _)⟩
  | insert a s ha ih =>
    obtain ⟨h1, h2, h3⟩ := ih
    rw [Finset.fold_insert ha]
    obtain ⟨g1, g2, g3⟩ := minsi_spec (g a) (s.fold IntOp.minsi z g)
    refine ⟨?_, g3.trans h2, fun k hk => ?_⟩
    · rcases g1 with g1 | g1
      · exact Or.inr ⟨a, Finset.mem_insert_self _ _, g1⟩
      · rw [g1]
        exact h1.imp id fun ⟨k, hk, e⟩ => ⟨k, Finset.mem_insert_of_mem hk, e⟩
    · rcases Finset.mem_insert.mp hk with rfl | hk
      · exact g2
      · exact g3.trans (h3 k hk)

/-- The marked positions against 512 for the others: the minimum is the least marked position, or 512 where none is marked. -/
theorem least_marked (p : Fin 256 → Prop) [DecidablePred p] (g : Fin 256 → BitVec 32)
    (hg : ∀ k, g k = if p k then BitVec.ofNat 32 k.val else 512#32) :
    (∃ k, p k ∧ (∀ j, p j → k ≤ j) ∧ Finset.univ.fold IntOp.minsi 2147483647#32 g = BitVec.ofNat 32 k.val)
      ∨ (∀ k, ¬ p k) ∧ Finset.univ.fold IntOp.minsi 2147483647#32 g = 512#32 := by
  obtain ⟨h1, h2, h3⟩ := fold_minsi_spec 2147483647#32 g Finset.univ
  have hle : ∀ k, (g k).toInt ≤ 512 := fun k => by
    rw [hg k]
    split
    · rw [toInt_ofNat _ (by omega)]; omega
    · decide
  rcases h1 with h1 | ⟨k, -, h1⟩
  · have := (h3 last (Finset.mem_univ _)).trans (hle last)
    rw [h1] at this
    exact absurd this (by decide)
  · rw [h1] at h3 ⊢
    by_cases hp : p k
    · refine Or.inl ⟨k, hp, fun j hj => ?_, by rw [hg k, if_pos hp]⟩
      have := h3 j (Finset.mem_univ _)
      rw [hg k, hg j, if_pos hp, if_pos hj, toInt_ofNat _ (by omega), toInt_ofNat _ (by omega)] at this
      exact Fin.mk_le_mk.mpr (by omega)
    · refine Or.inr ⟨fun j hj => ?_, by rw [hg k, if_neg hp]⟩
      have := h3 j (Finset.mem_univ _)
      have e : (512#32 : BitVec 32).toInt = 512 := by decide
      rw [hg k, hg j, if_neg hp, if_pos hj, toInt_ofNat j.val (by omega), e] at this
      omega

/-- The maximum of a line of values is the value at its first maximum. -/
theorem fold_max (f : Fin 256 → EReal) : (Finset.univ : Finset (Fin 256)).fold max ⊥ f = f (firstMax f) := by
  have key : ∀ s : Finset (Fin 256), (∀ k ∈ s, f k ≤ s.fold max ⊥ f) ∧ s.fold max ⊥ f ≤ f (firstMax f) := by
    intro s
    induction s using Finset.induction_on with
    | empty => exact ⟨fun k hk => absurd hk (Finset.notMem_empty _), bot_le⟩
    | insert a s ha ih =>
      rw [Finset.fold_insert ha]
      refine ⟨fun k hk => ?_, max_le ((firstMax_spec f).1 a) ih.2⟩
      rcases Finset.mem_insert.mp hk with rfl | hk
      · exact le_max_left _ _
      · exact (ih.1 k hk).trans (le_max_right _ _)
  exact le_antisymm (key _).2 ((key _).1 _ (Finset.mem_univ _))

/-- The least position among those whose value equals the maximum is the first maximum's. -/
theorem least_max (f : Fin 256 → EReal) (g : Fin 256 → BitVec 32)
    (hg : ∀ k, g k = if f k = f (firstMax f) then BitVec.ofNat 32 k.val else 512#32) :
    Finset.univ.fold IntOp.minsi 2147483647#32 g = BitVec.ofNat 32 (firstMax f).val := by
  rcases least_marked (fun k => f k = f (firstMax f)) g hg with ⟨k, hk, hl, e⟩ | ⟨hn, -⟩
  · have : firstMax f = k := by
      refine IsFirstMax.eq ⟨fun j => hk ▸ (firstMax_spec f).1 j, fun j hj => ?_⟩
      refine lt_of_le_of_ne (hk ▸ (firstMax_spec f).1 j) fun he => ?_
      exact absurd (hl j (he.trans hk)) (not_le.mpr hj)
    rw [e, this]
  · exact absurd rfl (hn (firstMax f))

end Cert.FirstMax

end
-- ==== Proof.RefRun.lean ====
/- The reference's run: what each stretch of lines leaves, what the loop holds before each trip, and the two results as the
   trip's function iterated 255 times. -/
module

public import proofs.«01_k».proof.Proof.RefLines
public import proofs.«01_k».proof.Proof.RefTrip
public import proofs.«01_k».proof.Proof.FirstMax

@[expose] public section

set_option maxRecDepth 16384

noncomputable section

namespace Cert.ReferenceIdeal.Run

open Idealize.ShloMosaic Idealize.ShloMosaic.TcCoe Idealize.ShloMosaic.StableHlo Idealize.SL.Sem
open Cert.ReferenceIdeal Cert.ReferenceIdeal.Gen Cert.ReferenceIdeal.Lines Cert.ReferenceIdeal.Trip

variable {F : FTy → Type} [FloatOps F]

/-! ## What a stretch leaves, from any contents -/

variable (X : Valuation τ sig (Elt F))

theorem column_left : after columnOps X (Proc.devRef .tc main_while0b_v13)
    = column (X (Proc.devRef .tc main_v7_0)) (X (Proc.devRef .tc main_v7_3)) := by
  after_reads_simp
  refine congrArg (fun f => shapeCast S_ (Host.dynamicSlice S1 (X (Proc.devRef .tc main_v7_0) : Arr F S255 .i32) f sliceFits_S255_S1)
    shapeCasts_S1_S_) (funext fun k => ?_)
  match k with
  | 0 => rfl

theorem wrap_left0 : after wrapOps X (Proc.devRef .tc main_while0b_v16) = wrap 32#32 (constantI S_ 32 0#32) := by
  after_results
  rfl

theorem wrap_left1 : after wrapOps X (Proc.devRef .tc main_while0b_v19) = wrap 256#32 (X (Proc.devRef .tc main_while0b_v13)) := by
  after_results
  rfl

theorem row_left : after rowOps X (Proc.devRef .tc main_while0b_v21)
    = rowsOf (X (Proc.devRef .tc main_v7_1)) (X (Proc.devRef .tc main_while0b_v16)) (X (Proc.devRef .tc main_while0b_v19)) := by
  after_reads_simp
  refine congrArg (fun f => shapeCast S32 (Host.dynamicSlice S32x1 (X (Proc.devRef .tc main_v7_1) : Arr F S32x256 .i32) f
    sliceFits_S32x256_S32x1) shapeCasts_S32x1_S32) (funext fun k => ?_)
  match k with
  | 0 => rfl
  | 1 => rfl

theorem look_left : after lookOps X (Proc.devRef .tc main_while0b_v35)
    = look (X (Proc.devRef .tc main_v7_4)) (X (Proc.devRef .tc main_v7_2)) (X (Proc.devRef .tc main_while0b_v21)) := by
  after_results
  rfl

theorem first_left : after firstOps X (Proc.devRef .tc main_while0b_v36) = firsts (X (Proc.devRef .tc main_while0b_v35)) := by
  after_results
  simp only [TRef.ofBuf_toBuf]
  unfold TRef.toBuf TRef.ofBuf
  rw [cast_eq, cast_eq]
  unfold firsts
  with_reducible rfl

theorem put_left : after putOps X (Proc.devRef .tc main_v7_4)
    = put (X (Proc.devRef .tc main_v7_4)) (X (Proc.devRef .tc main_while0b_v13)) (X (Proc.devRef .tc main_while0b_v36)) := by
  after_results
  rw [id_eq]
  rfl

theorem count_left : after putOps X (Proc.devRef .tc main_v7_3) = addi (X (Proc.devRef .tc main_v7_3)) (constantI S_ 32 1#32) := by
  after_results
  rfl

/-- The product and the marks. -/
theorem marked_left : after whereOps (after markOps X) (Proc.devRef .tc main_v3)
    = marked (X (Proc.devRef .tc main_arg0)) (X (Proc.devRef .tc main_arg1)) := by
  after_reads_simp
  rfl

theorem top_left : after argmaxOps X (Proc.devRef .tc main_v4) = topRows (X (Proc.devRef .tc main_v3)) := by
  after_results
  simp only [TRef.ofBuf_toBuf]
  unfold TRef.toBuf TRef.ofBuf
  rw [cast_eq, cast_eq]
  unfold topRows
  with_reducible rfl

theorem unmarked_left : after unwhereOps (after unmarkOps X) (Proc.devRef .tc main_v10) = unmarked (X (Proc.devRef .tc main_v7_4)) := by
  after_reads_simp
  rfl

theorem columns_left : afterL behind X (Proc.devRef .tc main_v12) = columns (X (Proc.devRef .tc main_v7_4)) := by
  unfold columns
  rw [← unmarked_left X, afterL_cons, afterL_cons, afterL_cons, afterL_nil]
  generalize after unwhereOps (after unmarkOps X) = Y
  after_results

/-! ## What a stretch keeps: the buffers that it does not write -/

section Keep

variable {r : Ref sig .tc}

theorem column_kept (h : r ∉ columnW) : after columnOps X (Proc.devRef .tc r) = X (Proc.devRef .tc r) := after_unwritten columnW rfl h X
theorem wrap_kept (h : r ∉ wrapW) : after wrapOps X (Proc.devRef .tc r) = X (Proc.devRef .tc r) := after_unwritten wrapW rfl h X
theorem row_kept (h : r ∉ rowW) : after rowOps X (Proc.devRef .tc r) = X (Proc.devRef .tc r) := after_unwritten rowW rfl h X
theorem look_kept (h : r ∉ lookW) : after lookOps X (Proc.devRef .tc r) = X (Proc.devRef .tc r) := after_unwritten lookW rfl h X
theorem first_kept (h : r ∉ firstW) : after firstOps X (Proc.devRef .tc r) = X (Proc.devRef .tc r) := after_unwritten firstW rfl h X
theorem cond_kept (h : r ∉ condW) : after condOps X (Proc.devRef .tc r) = X (Proc.devRef .tc r) := after_unwritten condW rfl h X

/-- What the whole body keeps. -/
theorem body_kept (h : r ∉ columnW ++ wrapW ++ rowW ++ lookW ++ firstW ++ putW) :
    afterL body X (Proc.devRef .tc r) = X (Proc.devRef .tc r) := by
  rw [afterL_eq_after_flatten]
  exact after_unwritten _ rfl h X

theorem before_kept (h : r ∉ beforeW) : afterL before X (Proc.devRef .tc r) = X (Proc.devRef .tc r) := by
  rw [afterL_eq_after_flatten]
  exact after_unwritten _ rfl h X

theorem behind_kept (h : r ∉ behindW) : afterL behind X (Proc.devRef .tc r) = X (Proc.devRef .tc r) := by
  rw [afterL_eq_after_flatten]
  exact after_unwritten _ rfl h X

end Keep

/-! ## What the loop holds -/

/-- The contents before trip `j` of the loop that started on `x` and `w`. -/
structure Holds (x : Arr F S32x256x2048 .f32) (w : Arr F S256x2048 .f32) (j : ℕ) (V : Valuation τ sig (Elt F)) : Prop where
  mat : V (Proc.devRef .tc main_v7_4) = states x w j
  top : V (Proc.devRef .tc main_v7_1) = topRows (marked x w)
  cols : V (Proc.devRef .tc main_v7_0) = (iotaInDim S255 32 0 : Arr F S255 .i32)
  lanes : V (Proc.devRef .tc main_v7_2) = (iotaInDim S32 32 0 : Arr F S32 .i32)
  num : V (Proc.devRef .tc main_v7_3) = (constantI S_ 32 (BitVec.ofNat 32 j) : Arr F S_ .i32)
  arg0 : V (Proc.devRef .tc main_arg0) = x
  arg1 : V (Proc.devRef .tc main_arg1) = w

variable {X} {x : Arr F S32x256x2048 .f32} {w : Arr F S256x2048 .f32} {j : ℕ}

theorem Holds.cond (h : Holds x w j X) : Holds x w j (after condOps X) where
  mat := (cond_kept X (by decide)).trans h.mat
  top := (cond_kept X (by decide)).trans h.top
  cols := (cond_kept X (by decide)).trans h.cols
  lanes := (cond_kept X (by decide)).trans h.lanes
  num := (cond_kept X (by decide)).trans h.num
  arg0 := (cond_kept X (by decide)).trans h.arg0
  arg1 := (cond_kept X (by decide)).trans h.arg1

theorem trip_left (h : Holds x w j X) : afterL body X (Proc.devRef .tc main_v7_4) = states x w (j + 1) := by
  have hc : after columnOps X (Proc.devRef .tc main_while0b_v13) = (col j : Arr F S_ .i32) := by
    rw [column_left, h.cols, h.num]
    rfl
  simp only [afterL_cons, afterL_nil]
  rw [put_left, first_left, look_left, row_left, wrap_left0, wrap_left1]
  rw [first_kept _ (by decide), look_kept _ (by decide), row_kept _ (by decide), wrap_kept _ (by decide), column_kept _ (by decide), h.mat]
  rw [first_kept _ (by decide), look_kept _ (by decide), row_kept _ (by decide), wrap_kept _ (by decide), hc]
  rw [row_kept _ (by decide), wrap_kept _ (by decide), column_kept _ (by decide), h.lanes]
  rw [wrap_kept _ (by decide), column_kept _ (by decide), h.top]
  rfl

theorem Holds.trip (h : Holds x w j X) : Holds x w (j + 1) (afterL body X) where
  mat := trip_left h
  top := (body_kept X (by decide)).trans h.top
  cols := (body_kept X (by decide)).trans h.cols
  lanes := (body_kept X (by decide)).trans h.lanes
  num := by
    simp only [afterL_cons, afterL_nil]
    rw [count_left, first_kept _ (by decide), look_kept _ (by decide), row_kept _ (by decide), wrap_kept _ (by decide),
      column_kept _ (by decide), h.num]
    funext i
    show BitVec.ofNat 32 j + 1#32 = BitVec.ofNat 32 (j + 1)
    rw [BitVec.ofNat_add]
  arg0 := (body_kept X (by decide)).trans h.arg0
  arg1 := (body_kept X (by decide)).trans h.arg1

/-- The loop is entered with the marked products, their arg-max and number 0. -/
theorem Holds.enter : Holds (X (Proc.devRef .tc main_arg0)) (X (Proc.devRef .tc main_arg1)) 0 (afterL before X) where
  mat := by
    refine Eq.trans ?_ (marked_left X)
    simp only [afterL_cons, afterL_nil]
    generalize after whereOps (after markOps X) = Y
    after_results
    rfl
  top := by
    rw [← marked_left X]
    simp only [afterL_cons, afterL_nil]
    generalize after whereOps (after markOps X) = Y
    rw [← top_left Y]
    generalize after argmaxOps Y = Z
    after_results
    rfl
  cols := by
    simp only [afterL_cons, afterL_nil]
    generalize after argmaxOps (after whereOps (after markOps X)) = Z
    after_results
    rfl
  lanes := by
    simp only [afterL_cons, afterL_nil]
    generalize after argmaxOps (after whereOps (after markOps X)) = Z
    after_results
    rfl
  num := by
    simp only [afterL_cons, afterL_nil]
    generalize after argmaxOps (after whereOps (after markOps X)) = Z
    after_results
    rfl
  arg0 := before_kept X (by decide)
  arg1 := before_kept X (by decide)

/-! ## The run -/

variable (m : (ℓ : Loc nD τ sig) → Buf (Elt F) ℓ) (ρ : Dev nD → PrngReg)

theorem holds (c : Dev nD) : ∀ k, Holds (m ((c.tc : Thread nD τ).loc main_arg0)) (m ((c.tc : Thread nD τ).loc main_arg1)) k
    (atTrip condOps body (entryContents before m) k c)
  | 0 => Holds.enter (X := launchContents m c)
  | k + 1 => (holds c k).cond.trip

open Idealize.SL Idealize.SL.RA Idealize.SL.BI Idealize.SL.BI.BIBase Idealize.SL.BI.Laws Idealize.SL.ProofMode
open Idealize.ShloMosaic.Pipeline (ucRefs sub_ucRefs)
open scoped Idealize.SL.BI

-- the two rules below are stated for any thread, and the thread here is the TensorCore's
set_option backward.isDefEq.respectTransparency.types false in
/-- The condition says whether a trip is left. -/
theorem cond_spec : CondSpec (pcfgs (F := F)) defs₀ loops (main_while0_cond (F := F)) condOps body (entryContents before m) 255 := by
  intro k hk c bd
  have hn := (holds m c k).num
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show IntOp.cmpi .slt (HloOp.result _ (atTrip condOps body (entryContents before m) k c) main_v7_3 HostLoop.idx0)
        (HloOp.result _ (atTrip condOps body (entryContents before m) k c) main_while0c_c_7 HostLoop.idx0) = 1#1 ↔ k < 255
    rw [nullary_result_ne _ _ _ _ (by decide), nullary_result, hn]
    show IntOp.cmpi .slt (BitVec.ofNat 32 k) (BitVec.ofNat 32 255) = 1#1 ↔ k < 255
    rw [WordCmp.cmpi_slt_eq, FirstMax.toInt_ofNat k (by omega), FirstMax.toInt_ofNat 255 (by omega)]
    by_cases hlt : k < 255 <;> simp [hlt]
  isplitl [Hb]; · iexact Hb
  rw [after_cons, after_cons, after_nil]; iexact Hh

/-- Every run ends with the two results of the matrix after 255 trips, and the arguments as they were. -/
theorem run : θ_run (defs (F := F)) (onTc (τ := τ) (main (F := F))) ⟨m, fun _ => 0, ρ⟩ fun r => ∀ c : Dev nD,
    r.2.mem ((c.tc : Thread nD τ).loc main_v10)
        = unmarked (states (m ((c.tc : Thread nD τ).loc main_arg0)) (m ((c.tc : Thread nD τ).loc main_arg1)) 255)
      ∧ r.2.mem ((c.tc : Thread nD τ).loc main_v12)
        = columns (states (m ((c.tc : Thread nD τ).loc main_arg0)) (m ((c.tc : Thread nD τ).loc main_arg1)) 255)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_loop (pcfgs (F := F)) defs₀ loops main 0 main_while0_cond main_while0_body rfl
    before body behind condOps plain.1 plain.2.1 plain.2.2 (fun c => by rw [main_chain]; rfl) (by rw [while0_body_chain]; rfl) 255 m ρ
    (cond_spec m))
  have hk := (holds m c 255).cond
  refine ⟨(h c main_v10 rfl).trans ?_, (h c main_v12 rfl).trans ?_, (h c main_arg0 rfl).trans ?_, (h c main_arg1 rfl).trans ?_⟩
  · rw [← hk.mat, ← unmarked_left]
    exact after_unwritten cutW rfl (by decide) _
  · exact (columns_left _).trans (congrArg columns hk.mat)
  · exact (behind_kept _ (by decide)).trans hk.arg0
  · exact (behind_kept _ (by decide)).trans hk.arg1

end Cert.ReferenceIdeal.Run

end
-- ==== Proof.RefFrame.lean ====
/- The reference runs, leaves its arguments unchanged and every semaphore at zero. -/
module

public import proofs.«01_k».proof.Defs
public import proofs.«01_k».proof.Proof.RefRun
public import Idealize.ShloMosaic.Lib.Quiescent

@[expose] public section

noncomputable section

namespace Cert.Proof

open Idealize.ShloMosaic Idealize.SL.Sem

/-- `Cert.quiescent_ReferenceIdeal`: the run's last conjuncts; the program declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Run.run (F := Ideal) m ρ)

end Cert.Proof

end
-- ==== Proof.Product.lean ====
/- The matrix both programs start from: one batch's products with the zeros marked, and the numbers that the printed
   constants name. -/
module

public import proofs.«01_k».proof.Proof.RowMath
public import Idealize.ShloMosaic.Lib.ValueIdxCore
public import Idealize.ShloMosaic.PureOps.Ideal.Laws

@[expose] public section

noncomputable section

namespace Cert.Product

open Idealize.ShloMosaic Idealize.ShloMosaic.ValueIdx Cert.RowMath

/-! ## The printed constants -/

theorem neg_one : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

theorem neg_inf : Ideal.ofBits .f32 0xFF800000#32 = (⊥ : EReal) := by
  simp [Ideal.ofBits, Ideal.ieee]

theorem zero : Ideal.ofBits .f32 0x00000000#32 = (0 : EReal) := by
  simp [Ideal.ofBits, Ideal.ieee]

theorem one : Ideal.ofBits .f32 0x3F800000#32 = (1 : EReal) := by
  rw [show (1 : EReal) = ((1 : ℝ) : EReal) by norm_cast]
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

/-! ## The marked products -/

/-- The products of one batch: row `r` of the input with row `o` of the weights. -/
def prod (x : (⟨3, ![32, 256, 2048]⟩ : Shape).Idx → EReal) (w : (⟨2, ![256, 2048]⟩ : Shape).Idx → EReal) (b : Fin 32)
    (r o : Fin 256) : EReal :=
  ∑ k : Fin 2048, x (ix3 b r k) * w (ix2 o k)

/-- A zero product is marked by −1. -/
def mark (d : EReal) : EReal := if d = 0 then -1 else d

/-- One batch's marked products. -/
def base (x : (⟨3, ![32, 256, 2048]⟩ : Shape).Idx → EReal) (w : (⟨2, ![256, 2048]⟩ : Shape).Idx → EReal) (b : Fin 32)
    (r o : Fin 256) : EReal :=
  mark (prod x w b r o)

end Cert.Product

end
-- ==== Proof.Scan.lean ====
/- The running maximum from the right, by doubling: after the step of width `K` every column holds the largest of the `2K` entries
   from it on and the first position of it. -/
module

public import proofs.«01_k».proof.KernelIdeal
public import proofs.«01_k».proof.Proof.FirstMax
public import proofs.«01_k».proof.Proof.Product
public import Idealize.ShloMosaic.Lib.ValueIdxCore
public import Idealize.ShloMosaic.Lib.Pointwise.SelectCore

@[expose] public section

set_option maxRecDepth 16384

noncomputable section

namespace Cert.Scan

open Idealize.ShloMosaic hiding ix0 ix1 ix2 ix3
open Idealize.ShloMosaic.ValueIdx Cert.KernelIdeal Cert.RowMath Cert.FirstMax Cert.Product

/-- Every column `i` holds the largest of the entries at `i, …, i + K - 1` (those there are) and the first position of it. -/
def Inv (L : Fin 256 → EReal) (K : ℕ) (val : Fin 256 → EReal) (idx : Fin 256 → BitVec 32) : Prop :=
  ∀ i : Fin 256, ∃ p : Fin 256, i ≤ p ∧ p.val < i.val + K ∧ val i = L p ∧ idx i = BitVec.ofNat 32 p.val
    ∧ (∀ j, i ≤ j → j.val < i.val + K → L j ≤ L p) ∧ ∀ j, i ≤ j → j < p → L j < L p

theorem Inv.start (L : Fin 256 → EReal) : Inv L 1 L fun i => BitVec.ofNat 32 i.val := fun i =>
  ⟨i, le_rfl, by omega, rfl, rfl, fun j h1 h2 => by
    have : j = i := Fin.ext (by have : i.val ≤ j.val := h1; omega)
    rw [this], fun j h1 h2 => absurd h1 (not_le.mpr h2)⟩

/-- What stands `K` columns to the right, `pad` past the end. -/
def shifted {α : Type} (K : ℕ) (pad : α) (v : Fin 256 → α) (i : Fin 256) : α :=
  if h : i.val + K < 256 then v ⟨i.val + K, h⟩ else pad

theorem Inv.step {L : Fin 256 → EReal} {K : ℕ} {val : Fin 256 → EReal} {idx : Fin 256 → BitVec 32} (h : Inv L K val idx)
    (val' : Fin 256 → EReal) (idx' : Fin 256 → BitVec 32)
    (hv : ∀ i, val' i = if val i < shifted K ⊥ val i then shifted K ⊥ val i else val i)
    (hi : ∀ i, idx' i = if val i < shifted K ⊥ val i then shifted K 512#32 idx i else idx i) : Inv L (K + K) val' idx' := by
  intro i
  obtain ⟨p, hp1, hp2, hp3, hp4, hp5, hp6⟩ := h i
  have hp1' : i.val ≤ p.val := hp1
  by_cases hb : i.val + K < 256
  · obtain ⟨q, hq1, hq2, hq3, hq4, hq5, hq6⟩ := h ⟨i.val + K, hb⟩
    have hq1' : i.val + K ≤ q.val := hq1
    have hq2' : q.val < i.val + K + K := hq2
    have ev : shifted K ⊥ val i = L q := by unfold shifted; rw [dif_pos hb]; exact hq3
    have ei : shifted K 512#32 idx i = BitVec.ofNat 32 q.val := by unfold shifted; rw [dif_pos hb]; exact hq4
    by_cases hc : val i < shifted K ⊥ val i
    · refine ⟨q, Fin.le_def.mpr (by omega), by omega, (hv i).trans ((if_pos hc).trans ev), (hi i).trans ((if_pos hc).trans ei),
        fun j hj1 hj2 => ?_, fun j hj1 hj2 => ?_⟩
      · by_cases hjk : j.val < i.val + K
        · exact (hp5 j hj1 hjk).trans (hp3 ▸ ev ▸ hc.le)
        · exact hq5 j (Fin.le_def.mpr (show i.val + K ≤ j.val by omega)) (by show j.val < i.val + K + K; omega)
      · by_cases hjk : j.val < i.val + K
        · exact (hp5 j hj1 hjk).trans_lt (hp3 ▸ ev ▸ hc)
        · exact hq6 j (Fin.le_def.mpr (show i.val + K ≤ j.val by omega)) hj2
    · refine ⟨p, hp1, by omega, (hv i).trans ((if_neg hc).trans hp3), (hi i).trans ((if_neg hc).trans hp4),
        fun j hj1 hj2 => ?_, hp6⟩
      by_cases hjk : j.val < i.val + K
      · exact hp5 j hj1 hjk
      · refine (hq5 j (Fin.le_def.mpr (show i.val + K ≤ j.val by omega)) (by show j.val < i.val + K + K; omega)).trans ?_
        rw [← ev, ← hp3]
        exact not_lt.mp hc
  · have ev : shifted K ⊥ val i = ⊥ := by unfold shifted; rw [dif_neg hb]
    have hc : ¬ val i < shifted K ⊥ val i := by rw [ev]; exact not_lt_bot
    exact ⟨p, hp1, by omega, (hv i).trans ((if_neg hc).trans hp3), (hi i).trans ((if_neg hc).trans hp4),
      fun j hj1 hj2 => hp5 j hj1 (by omega), hp6⟩

/-- At the full width a column keeps its own position exactly when no entry from it on is above its own. -/
theorem Inv.own {L : Fin 256 → EReal} {val : Fin 256 → EReal} {idx : Fin 256 → BitVec 32} (h : Inv L 256 val idx) (i : Fin 256) :
    idx i = BitVec.ofNat 32 i.val ↔ ∀ j, i ≤ j → L j ≤ L i := by
  obtain ⟨p, hp1, hp2, hp3, hp4, hp5, hp6⟩ := h i
  rw [hp4, ofNat_inj (by omega) (by omega)]
  constructor
  · intro e
    have : p = i := Fin.ext e
    subst this
    exact fun j hj => hp5 j hj (by omega)
  · intro ht
    by_contra hne
    have hlt : i < p := lt_of_le_of_ne hp1 fun e => hne (by rw [e])
    exact absurd (hp6 i le_rfl hlt) (not_lt.mpr (ht p hp1))

/-- There it holds its own entry. -/
theorem Inv.value {L : Fin 256 → EReal} {val : Fin 256 → EReal} {idx : Fin 256 → BitVec 32} (h : Inv L 256 val idx) (i : Fin 256)
    (ht : ∀ j, i ≤ j → L j ≤ L i) : val i = L i := by
  obtain ⟨p, hp1, hp2, hp3, hp4, hp5, hp6⟩ := h i
  rw [hp3]
  exact le_antisymm (ht p hp1) (hp5 i le_rfl (by omega))

/-- A slice from column `K` on followed by `K` columns of padding, read at an index. -/
theorem shift_at {α : Type} {A K : ℕ} (hA : A + K = 256) (hs : S8x256.Slices ![0, K] ⟨2, ![8, A]⟩)
    (hc : Shape.Concatenates [⟨2, ![8, A]⟩, ⟨2, ![8, K]⟩] S8x256 1) (v : S8x256.Idx → α) (pad : α) (b : Fin 8) (i : Fin 256) :
    concatenate S8x256 1 [⟨⟨2, ![8, A]⟩, extractStridedSlice ⟨2, ![8, A]⟩ ![0, K] v hs⟩, ⟨⟨2, ![8, K]⟩, broadcast ⟨2, ![8, K]⟩ pad⟩] hc
      (ix2 b i) = shifted K pad (fun i => v (ix2 b i)) i := by
  rw [concatenate_pair_apply]
  unfold shifted
  by_cases h : i.val + K < 256
  · rw [dif_pos h]
    refine (dif_pos (show i.val < A by omega)).trans ?_
    refine extractStridedSlice_apply _ _ _ _ _ fun a => ?_
    match a with
    | ⟨0, _⟩ => exact (Nat.zero_add _).symm
    | ⟨1, _⟩ => exact Nat.add_comm _ _
  · rw [dif_neg h]
    exact dif_neg (show ¬ i.val < A by omega)

/-- One row of an array of 8 rows. -/
def row {α : Type} (v : S8x256.Idx → α) (b : Fin 8) : Fin 256 → α := fun i => v (ix2 b i)

/-- One step of the scan. -/
theorem scan_step {A K : ℕ} (hA : A + K = 256) (hs : S8x256.Slices ![0, K] ⟨2, ![8, A]⟩)
    (hc : Shape.Concatenates [⟨2, ![8, A]⟩, ⟨2, ![8, K]⟩] S8x256 1) (L : Fin 256 → EReal) (b : Fin 8)
    (val : FVec Ideal S8x256 .f32) (idx : IVec S8x256 32) (h : Inv L K (row val b) (row idx b))
    (sv : FVec Ideal S8x256 .f32) (si : IVec S8x256 32)
    (hsv : sv = concatenate S8x256 1 [⟨⟨2, ![8, A]⟩, extractStridedSlice ⟨2, ![8, A]⟩ ![0, K] val hs⟩,
      ⟨⟨2, ![8, K]⟩, broadcast ⟨2, ![8, K]⟩ (Scalar.ofBits (F := Ideal) .f32 0xFF800000#32)⟩] hc)
    (hsi : si = concatenate S8x256 1 [⟨⟨2, ![8, A]⟩, extractStridedSlice ⟨2, ![8, A]⟩ ![0, K] idx hs⟩,
      ⟨⟨2, ![8, K]⟩, broadcast ⟨2, ![8, K]⟩ 512#32⟩] hc) :
    Inv L (K + K) (row (select (cmpf .ogt sv val) sv val) b) (row (select (cmpf .ogt sv val) si idx) b) := by
  have e1 : ∀ i, sv (ix2 b i) = shifted K ⊥ (row val b) i := fun i => by
    rw [hsv]
    refine (shift_at hA hs hc val _ b i).trans ?_
    rw [show (Scalar.ofBits (F := Ideal) .f32 0xFF800000#32 : EReal) = ⊥ from neg_inf]
    rfl
  have e2 : ∀ i, si (ix2 b i) = shifted K 512#32 (row idx b) i := fun i => by
    rw [hsi]
    exact shift_at hA hs hc idx _ b i
  refine h.step _ _ (fun i => ?_) fun i => ?_
  · show Scalar.select (Ideal.cmp .ogt (sv (ix2 b i)) (val (ix2 b i))) (sv (ix2 b i)) (val (ix2 b i)) = _
    rw [e1]
    unfold Ideal.cmp
    rw [Scalar.select_ofBool]
    simp only [decide_eq_true_eq]
    rfl
  · show Scalar.select (Ideal.cmp .ogt (sv (ix2 b i)) (val (ix2 b i))) (si (ix2 b i)) (idx (ix2 b i)) = _
    rw [e1, e2]
    unfold Ideal.cmp
    rw [Scalar.select_ofBool]
    simp only [decide_eq_true_eq]
    rfl

end Cert.Scan

end
-- ==== Proof.KerRead.lean ====
/- The kernel's block values at an index: the marked products of its 8 batches, the position of each column's maximum, the running
   maximum of the last row, and from these the closed form. -/
module

public import proofs.«01_k».proof.Proof.Gen.KernelIdeal.Frame
public import proofs.«01_k».proof.Proof.Scan
public import Idealize.ShloMosaic.Lib.Pointwise.Contract

@[expose] public section

set_option maxRecDepth 16384

noncomputable section

namespace Cert.KernelIdeal.Read

open Idealize.ShloMosaic hiding ix0 ix1 ix2 ix3
open Idealize.ShloMosaic.ValueIdx Cert.KernelIdeal Cert.KernelIdeal.Gen Cert.RowMath Cert.Product Cert.FirstMax Cert.Scan

variable (v0 : Vec Ideal S2048x2048 .f32) (v2 : Vec Ideal S2048x256 .f32)

/-- Row `r` of batch `b` of the block. -/
def brow (b : Fin 8) (r : Fin 256) : Fin 2048 := ⟨256 * b.val + r.val, by omega⟩

/-- The block's product, batch by batch. -/
def bprod (b : Fin 8) (r o : Fin 256) : EReal := ∑ k : Fin 2048, v0 (ix2 (brow b r) k) * v2 (ix2 k o)

/-- The block's marked product. -/
def bbase (b : Fin 8) (r o : Fin 256) : EReal := mark (bprod v0 v2 b r o)

/-- The block's product as the block holds it. -/
def mm : FVec Ideal S2048x256 .f32 :=
  matmul (F := Ideal) (φ₁ := .f32) (φ₂ := .f32) dot_S2048x2048_S2048x256_S2048x256_1_0_0_1_n_n none
    (shapeCast S2048x2048 v0 shapeCasts_S2048x2048_S2048x2048) (shapeCast S2048x256 v2 shapeCasts_S2048x256_S2048x256)
    (constant S2048x256 .f32 0x00000000#32)

theorem mm_at (b : Fin 8) (r o : Fin 256) : mm v0 v2 (ix2 (brow b r) o) = bprod v0 v2 b r o := by
  unfold mm
  refine (Ideal.matmul_constant_zero_apply _ _ _ _ _).trans ?_
  rw [dot_S2048x2048_S2048x256_S2048x256_1_0_0_1_n_n.sum_contr₁ (a := 1) rfl (K := 2048) rfl]
  unfold bprod
  refine Finset.sum_congr rfl fun k _ => congrArg₂ (fun u v : EReal => u * v) ?_ ?_
  · refine shapeCast_apply _ _ _ _ (congrArg (fun i => (S2048x2048.rowMajor i).val) (funext fun a => Fin.ext ?_))
    match a with
    | ⟨0, _⟩ => rfl
    | ⟨1, _⟩ => rfl
  · refine shapeCast_apply _ _ _ _ (congrArg (fun i => (S2048x256.rowMajor i).val) (funext fun a => Fin.ext ?_))
    match a with
    | ⟨0, _⟩ => rfl
    | ⟨1, _⟩ => rfl

theorem p4_at (b : Fin 8) (r o : Fin 256) : k0_pay4 (F := Ideal) v0 v2 (ix3 b r o) = bbase v0 v2 b r o := by
  unfold k0_pay4
  refine (shapeCast_apply _ shapeCasts_S2048x256_S8x256x256 (ix3 b r o) (ix2 (brow b r) o) ?_).trans ?_
  · rw [Shape.rowMajor_val_two, Shape.rowMajor_val_three]
    show (256 * b.val + r.val) * 256 + o.val = (b.val * 256 + r.val) * 256 + o.val
    omega
  · show Scalar.select (Ideal.cmp .oeq (mm v0 v2 (ix2 (brow b r) o)) (Ideal.ofBits .f32 0x00000000#32))
      (Ideal.ofBits .f32 0xBF800000#32) (mm v0 v2 (ix2 (brow b r) o)) = _
    rw [mm_at, zero, neg_one]
    unfold Ideal.cmp
    rw [Scalar.select_ofBool]
    unfold bbase mark
    simp only [decide_eq_true_eq]

/-! ## Reductions and broadcasts over the block's axes -/

/-- A row of numbers spread over the block's rows. -/
theorem spread_rows {α : Type} (v : S8x256.Idx → α) (b : Fin 8) (r o : Fin 256) :
    broadcastTo S8x256x256 (shapeCast S8x1x256 v shapeCasts_S8x256_S8x1x256) broadcasts_S8x1x256_S8x256x256 (ix3 b r o) = v (ix2 b o) := by
  refine (broadcastTo_apply _ _ _ (ix3 b (0 : Fin 1) o) fun a => ?_).trans (shapeCast_apply _ _ _ _ ?_)
  · match a with
    | ⟨0, _⟩ => rfl
    | ⟨1, _⟩ => rfl
    | ⟨2, _⟩ => rfl
  · rw [Shape.rowMajor_val_two, Shape.rowMajor_val_three]
    show b.val * 256 + o.val = (b.val * 1 + 0) * 256 + o.val
    omega

/-- A column of numbers spread over the block's columns. -/
theorem spread_cols {α : Type} (v : S8x256.Idx → α) (b : Fin 8) (r o : Fin 256) :
    broadcastTo S8x256x256 (shapeCast S8x256x1 v shapeCasts_S8x256_S8x256x1) broadcasts_S8x256x1_S8x256x256 (ix3 b r o) = v (ix2 b r) := by
  refine (broadcastTo_apply _ _ _ (ix3 b r (0 : Fin 1)) fun a => ?_).trans (shapeCast_apply _ _ _ _ ?_)
  · match a with
    | ⟨0, _⟩ => rfl
    | ⟨1, _⟩ => rfl
    | ⟨2, _⟩ => rfl
  · rw [Shape.rowMajor_val_two, Shape.rowMajor_val_three]
    show b.val * 256 + r.val = (b.val * 256 + r.val) * 1 + 0
    omega

theorem max_rows (src : FVec Ideal S8x256x256 .f32) (b : Fin 8) (o : Fin 256) :
    multiReduction .maximumf [1] S8x256 src 0xFF800000#32 reduces_S8x256x256_S8x256 (.inl rfl) rfl (ix2 b o)
      = src (ix3 b (firstMax fun r => src (ix3 b r o)) o) := by
  refine (Ideal.multiReduction_maximumf_single _ _ _ _ _ _).trans ?_
  refine Eq.trans ?_ (fold_max fun r => src (ix3 b r o))
  refine congrArg₂ (fun z f => Finset.fold max z f (Finset.univ : Finset (Fin 256))) neg_inf (funext fun r => congrArg src (funext fun a => Fin.ext ?_))
  match a with
  | ⟨0, _⟩ => rfl
  | ⟨1, _⟩ => rfl
  | ⟨2, _⟩ => rfl

theorem max_cols (src : FVec Ideal S8x256x256 .f32) (b : Fin 8) (r : Fin 256) :
    multiReduction .maximumf [2] S8x256 src 0xFF800000#32 reduces_S8x256x256_S8x256_2 (.inl rfl) rfl (ix2 b r)
      = src (ix3 b r (firstMax fun o => src (ix3 b r o))) := by
  refine (Ideal.multiReduction_maximumf_single _ _ _ _ _ _).trans ?_
  refine Eq.trans ?_ (fold_max fun o => src (ix3 b r o))
  refine congrArg₂ (fun z f => Finset.fold max z f (Finset.univ : Finset (Fin 256))) neg_inf (funext fun o => congrArg src (funext fun a => Fin.ext ?_))
  match a with
  | ⟨0, _⟩ => rfl
  | ⟨1, _⟩ => rfl
  | ⟨2, _⟩ => rfl

theorem min_rows (src : IVec S8x256x256 32) (b : Fin 8) (o : Fin 256) :
    multiReductionI .minsi [1] S8x256 src 2147483647#32 reduces_S8x256x256_S8x256 rfl (ix2 b o)
      = Finset.univ.fold IntOp.minsi 2147483647#32 fun r : Fin 256 => src (ix3 b r o) := by
  refine (multiReductionI_eq_fold _ _ _ _ _ _).trans ((Shape.Reduces.fold_filter_drop_single _ _ _ _ _).trans ?_)
  refine congrArg (fun f => Finset.fold IntOp.minsi 2147483647#32 f (Finset.univ : Finset (Fin 256))) (funext fun r => congrArg src (funext fun a => Fin.ext ?_))
  match a with
  | ⟨0, _⟩ => rfl
  | ⟨1, _⟩ => rfl
  | ⟨2, _⟩ => rfl

theorem min_cols (src : IVec S8x256x256 32) (b : Fin 8) (r : Fin 256) :
    multiReductionI .minsi [2] S8x256 src 2147483647#32 reduces_S8x256x256_S8x256_2 rfl (ix2 b r)
      = Finset.univ.fold IntOp.minsi 2147483647#32 fun o : Fin 256 => src (ix3 b r o) := by
  refine (multiReductionI_eq_fold _ _ _ _ _ _).trans ((Shape.Reduces.fold_filter_drop_single _ _ _ _ _).trans ?_)
  refine congrArg (fun f => Finset.fold IntOp.minsi 2147483647#32 f (Finset.univ : Finset (Fin 256))) (funext fun r => congrArg src (funext fun a => Fin.ext ?_))
  match a with
  | ⟨0, _⟩ => rfl
  | ⟨1, _⟩ => rfl
  | ⟨2, _⟩ => rfl

theorem min_row (src : IVec S8x256 32) (b : Fin 8) :
    multiReductionI .minsi [1] S8 src 2147483647#32 reduces_S8x256_S8 rfl (ix1 b)
      = Finset.univ.fold IntOp.minsi 2147483647#32 fun o : Fin 256 => src (ix2 b o) := by
  refine (multiReductionI_eq_fold _ _ _ _ _ _).trans ((Shape.Reduces.fold_filter_drop_single _ _ _ _ _).trans ?_)
  refine congrArg (fun f => Finset.fold IntOp.minsi 2147483647#32 f (Finset.univ : Finset (Fin 256))) (funext fun r => congrArg src (funext fun a => Fin.ext ?_))
  match a with
  | ⟨0, _⟩ => rfl
  | ⟨1, _⟩ => rfl

/-! ## Positions of the maxima -/

theorem p5_at (b : Fin 8) (o : Fin 256) : k0_pay5 (F := Ideal) v0 v2 (ix2 b o) = BitVec.ofNat 32 (mcol (bbase v0 v2 b) o).val := by
  unfold k0_pay5
  refine (min_rows _ b o).trans ((least_max (fun r => bbase v0 v2 b r o) _ fun r => ?_).trans rfl)
  show Scalar.select (Ideal.cmp .oeq (k0_pay4 (F := Ideal) v0 v2 (ix3 b r o)) (broadcastTo S8x256x256 (shapeCast S8x1x256 _ _) _ (ix3 b r o)))
    (iota .tc S8x256x256 32 [1] iota_S8x256x256_d1_w32 (ix3 b r o)) 512#32 = _
  rw [spread_rows, max_rows, iota_single_apply]
  simp only [p4_at]
  unfold Ideal.cmp
  rw [Scalar.select_ofBool]
  simp only [decide_eq_true_eq]

/-- The position of each row's first maximum. -/
def rowPos : IVec S8x256 32 :=
  multiReductionI .minsi [2] S8x256 (select (cmpf (F := Ideal) .oeq (k0_pay4 v0 v2) (broadcastTo S8x256x256 (shapeCast S8x256x1
    (multiReduction (F := Ideal) .maximumf [2] S8x256 (k0_pay4 v0 v2) 0xFF800000#32 reduces_S8x256x256_S8x256_2 (.inl rfl) rfl)
    shapeCasts_S8x256_S8x256x1) broadcasts_S8x256x1_S8x256x256)) (iota .tc S8x256x256 32 [2] iota_S8x256x256_d2_w32)
    (broadcast S8x256x256 512#32)) 2147483647#32 reduces_S8x256x256_S8x256_2 rfl

theorem rowPos_at (b : Fin 8) (r : Fin 256) : rowPos v0 v2 (ix2 b r) = BitVec.ofNat 32 (firstMax (bbase v0 v2 b r)).val := by
  unfold rowPos
  refine (min_cols _ b r).trans ((least_max (fun o => bbase v0 v2 b r o) _ fun o => ?_).trans rfl)
  show Scalar.select (Ideal.cmp .oeq (k0_pay4 (F := Ideal) v0 v2 (ix3 b r o)) (broadcastTo S8x256x256 (shapeCast S8x256x1 _ _) _ (ix3 b r o)))
    (iota .tc S8x256x256 32 [2] iota_S8x256x256_d2_w32 (ix3 b r o)) 512#32 = _
  rw [spread_cols, max_cols, iota_single_apply]
  simp only [p4_at]
  unfold Ideal.cmp
  rw [Scalar.select_ofBool]
  simp only [decide_eq_true_eq]

/-- Column `o`'s row's first maximum, as the product with the indicator of the position reads it. -/
theorem p6_at (b : Fin 8) (o : Fin 256) :
    k0_pay6 (F := Ideal) v0 v2 (ix2 b o) = (((firstMax (bbase v0 v2 b (mcol (bbase v0 v2 b) o))).val : ℝ) : EReal) := by
  unfold k0_pay6
  refine (Ideal.matmul_constant_zero_apply _ _ _ _ _).trans ?_
  rw [dot_S8x256_S8x256x256_S8x256_1_1_n_2_0_0.sum_contr₁ (a := 1) rfl (K := 256) rfl]
  have hterm : ∀ r : Fin 256, sitofp (F := Ideal) .f32 (rowPos v0 v2) (ix2 b r)
      * select (cmpi .eq (iota .tc S8x256x256 32 [1] iota_S8x256x256_d1_w32)
          (broadcastTo S8x256x256 (shapeCast S8x1x256 (k0_pay5 (F := Ideal) v0 v2) shapeCasts_S8x256_S8x1x256) broadcasts_S8x1x256_S8x256x256))
          (broadcast S8x256x256 (Scalar.ofBits (F := Ideal) .f32 0x3F800000#32))
          (broadcast S8x256x256 (Scalar.ofBits (F := Ideal) .f32 0x00000000#32)) (ix3 b r o)
      = if r = mcol (bbase v0 v2 b) o then (((firstMax (bbase v0 v2 b r)).val : ℝ) : EReal) else 0 := fun r => by
    show (((rowPos v0 v2 (ix2 b r)).toInt : ℝ) : EReal) * Scalar.select (IntOp.cmpi .eq (iota .tc S8x256x256 32 [1] iota_S8x256x256_d1_w32 (ix3 b r o))
      (broadcastTo S8x256x256 (shapeCast S8x1x256 (k0_pay5 (F := Ideal) v0 v2) _) _ (ix3 b r o)))
      (Ideal.ofBits .f32 0x3F800000#32) (Ideal.ofBits .f32 0x00000000#32) = _
    rw [spread_rows, p5_at, iota_single_apply, rowPos_at, toInt_ofNat _ (by omega), one, zero, WordCmp.cmpi_eq_eq, Scalar.select_ofBool]
    show _ * (if decide (BitVec.ofNat 32 r.val = BitVec.ofNat 32 (mcol (bbase v0 v2 b) o).val) = true then _ else _) = _
    simp only [decide_eq_true_eq, Int.cast_natCast]
    by_cases h : r = mcol (bbase v0 v2 b) o
    · rw [if_pos h, if_pos (by rw [h]), mul_one]
    · rw [if_neg h, if_neg fun e => h (Fin.ext ((ofNat_inj (by omega) (by omega)).mp e)), mul_zero]
  refine (Finset.sum_congr rfl fun r _ => (congrArg₂ (fun u v : EReal => u * v) ?_ ?_).trans (hterm r)).trans ?_
  · refine congrArg (sitofp (F := Ideal) .f32 (rowPos v0 v2)) (funext fun a => Fin.ext ?_)
    match a with
    | ⟨0, _⟩ => rfl
    | ⟨1, _⟩ => rfl
  · refine congrArg (select _ _ _) (funext fun a => Fin.ext ?_)
    match a with
    | ⟨0, _⟩ => rfl
    | ⟨1, _⟩ => rfl
    | ⟨2, _⟩ => rfl
  · rw [Finset.sum_ite_eq' Finset.univ]
    exact if_pos (Finset.mem_univ _)

/-- A function that is `⊥` but at the last position is largest there. -/
theorem max_only_last (f : Fin 256 → EReal) (h : ∀ r, r ≠ last → f r = ⊥) : f (firstMax f) = f last := by
  refine le_antisymm ?_ ((firstMax_spec f).1 last)
  by_cases hk : firstMax f = last
  · rw [hk]
  · rw [h _ hk]; exact bot_le

theorem ofNat_last (r : Fin 256) : BitVec.ofNat 32 r.val = 255#32 ↔ r = last := by
  rw [show (255#32 : BitVec 32) = BitVec.ofNat 32 (last : Fin 256).val from rfl, ofNat_inj (by omega) (by decide)]
  exact ⟨Fin.ext, fun h => by rw [h]⟩

theorem p7_at (b : Fin 8) (o : Fin 256) : k0_pay7 (F := Ideal) v0 v2 (ix2 b o) = bbase v0 v2 b last o := by
  unfold k0_pay7
  refine (max_rows _ b o).trans ?_
  have e : ∀ r : Fin 256, select (cmpi .eq (iota .tc S8x256x256 32 [1] iota_S8x256x256_d1_w32) (broadcast S8x256x256 255#32))
      (k0_pay4 (F := Ideal) v0 v2) (broadcast S8x256x256 (Scalar.ofBits (F := Ideal) .f32 0xFF800000#32)) (ix3 b r o)
      = if r = last then bbase v0 v2 b r o else ⊥ := fun r => by
    show Scalar.select (IntOp.cmpi .eq (iota .tc S8x256x256 32 [1] iota_S8x256x256_d1_w32 (ix3 b r o)) 255#32)
      (k0_pay4 (F := Ideal) v0 v2 (ix3 b r o)) (Ideal.ofBits .f32 0xFF800000#32) = _
    rw [iota_single_apply, p4_at, neg_inf, WordCmp.cmpi_eq_eq, Scalar.select_ofBool]
    show (if decide (BitVec.ofNat 32 r.val = 255#32) = true then _ else _) = _
    simp only [decide_eq_true_eq, ofNat_last]
  exact (max_only_last (fun r => select (cmpi .eq (iota .tc S8x256x256 32 [1] iota_S8x256x256_d1_w32) (broadcast S8x256x256 255#32))
      (k0_pay4 (F := Ideal) v0 v2) (broadcast S8x256x256 (Scalar.ofBits (F := Ideal) .f32 0xFF800000#32)) (ix3 b r o))
      fun r hr => (e r).trans (if_neg hr)).trans ((e last).trans (if_pos rfl))

/-- A choice between 1 and 0 is the truth value as a number. -/
theorem choice_num (p q : Prop) [Decidable p] (h : p ↔ q) : (if decide p = true then (1 : EReal) else 0) = num q := by
  by_cases hp : p
  · rw [num_true (h.mp hp)]; exact if_pos (decide_eq_true hp)
  · rw [num_false fun hq => hp (h.mpr hq)]; exact if_neg fun e => hp (of_decide_eq_true e)

/-! ## The running maximum -/

section Running
variable (v38 : FVec Ideal S8x256 .f32) (b : Fin 8)

theorem scan_start : Inv (row v38 b) 1 (row v38 b) (row (iota .tc S8x256 32 [1] iota_S8x256_d1_w32) b) := by
  have e : row (iota .tc S8x256 32 [1] iota_S8x256_d1_w32) b = fun i => BitVec.ofNat 32 i.val := funext fun i => iota_single_apply _ _ _ _ _ _
  rw [e]
  exact Inv.start _

/-- After the widths 1, 2, 4, 8, 16. -/
theorem scan_half : Inv (row v38 b) 32 (row (k0_pay22 v38) b) (row (k0_pay23 v38 (iota .tc S8x256 32 [1] iota_S8x256_d1_w32)) b) := by
  have h1 := scan_step rfl slices_S8x256_o0_1_S8x255 concatenates_S8x255_S8x1_S8x256_d1 _ b _ _ (scan_start v38 b) _ _ rfl rfl
  have h2 := scan_step rfl slices_S8x256_o0_2_S8x254 concatenates_S8x254_S8x2_S8x256_d1 _ b _ _ h1 _ _ rfl rfl
  have h3 := scan_step rfl slices_S8x256_o0_4_S8x252 concatenates_S8x252_S8x4_S8x256_d1 _ b _ _ h2 _ _ rfl rfl
  have h4 := scan_step rfl slices_S8x256_o0_8_S8x248 concatenates_S8x248_S8x8_S8x256_d1 _ b _ _ h3 _ _ rfl rfl
  exact scan_step rfl slices_S8x256_o0_16_S8x240 concatenates_S8x240_S8x16_S8x256_d1 _ b _ _ h4 _ _ rfl rfl

/-- The positions after the width 32. -/
def pos32 : IVec S8x256 32 :=
  select (k0_pay28 (k0_pay22 v38) k0_pay24 (k0_pay26 v38))
    (concatenate S8x256 1 [⟨S8x224, extractStridedSlice S8x224 ![0, 32] (k0_pay23 v38 (iota .tc S8x256 32 [1] iota_S8x256_d1_w32)) slices_S8x256_o0_32_S8x224⟩,
      ⟨S8x32, broadcast S8x32 512#32⟩] concatenates_S8x224_S8x32_S8x256_d1) (k0_pay23 v38 (iota .tc S8x256 32 [1] iota_S8x256_d1_w32))

/-- The positions after the width 64. -/
def pos64 : IVec S8x256 32 :=
  select (k0_pay31 (k0_pay22 v38) k0_pay24 (k0_pay26 v38))
    (concatenate S8x256 1 [⟨S8x192, extractStridedSlice S8x192 ![0, 64] (pos32 v38) slices_S8x256_o0_64_S8x192⟩,
      ⟨S8x64, broadcast S8x64 512#32⟩] concatenates_S8x192_S8x64_S8x256_d1) (pos32 v38)

/-- The positions after the width 128. -/
def pos128 : IVec S8x256 32 :=
  select (k0_pay34 (k0_pay22 v38) k0_pay24 (k0_pay26 v38))
    (concatenate S8x256 1 [⟨S8x128, extractStridedSlice S8x128 ![0, 128] (pos64 v38) slices_S8x256_o0_128_S8x128⟩,
      ⟨S8x128, broadcast S8x128 512#32⟩] concatenates_S8x128_S8x128_S8x256_d1) (pos64 v38)

theorem scan_full : Inv (row v38 b) 256 (row (k0_pay35 (k0_pay22 v38) k0_pay24 (k0_pay26 v38)) b) (row (pos128 v38) b) := by
  have h6 := scan_step rfl slices_S8x256_o0_32_S8x224 concatenates_S8x224_S8x32_S8x256_d1 _ b _ _ (scan_half v38 b) _ _ rfl rfl
  have h7 := scan_step rfl slices_S8x256_o0_64_S8x192 concatenates_S8x192_S8x64_S8x256_d1 _ b _ _ h6 _ _ rfl rfl
  exact scan_step rfl slices_S8x256_o0_128_S8x128 concatenates_S8x128_S8x128_S8x256_d1 _ b _ _ h7 _ _ rfl rfl

/-- Whether no entry from the column on is above its own, as a number. -/
theorem p36_at (o : Fin 256) :
    k0_pay36 (k0_pay22 v38) (k0_pay23 v38 (iota .tc S8x256 32 [1] iota_S8x256_d1_w32)) k0_pay24 k0_pay25 (k0_pay26 v38) (ix2 b o)
      = num (∀ j, o ≤ j → row v38 b j ≤ row v38 b o) := by
  show Scalar.select (IntOp.cmpi .eq (pos128 v38 (ix2 b o)) (iota .tc S8x256 32 [1] iota_S8x256_d1_w32 (ix2 b o)))
    (Ideal.ofBits .f32 0x3F800000#32) (Ideal.ofBits .f32 0x00000000#32) = _
  rw [iota_single_apply, one, zero, WordCmp.cmpi_eq_eq, Scalar.select_ofBool]
  exact choice_num _ _ ((scan_full v38 b).own o)

/-- The running maximum at a column. -/
def running (o : Fin 256) : EReal := k0_pay35 (F := Ideal) (k0_pay22 v38) k0_pay24 (k0_pay26 v38) (ix2 b o)

theorem running_own (o : Fin 256) (h : ∀ j, o ≤ j → row v38 b j ≤ row v38 b o) : running v38 b o = row v38 b o :=
  (scan_full v38 b).value o h

theorem ofNat_zero (o : Fin 256) : BitVec.ofNat 32 o.val = 0#32 ↔ o.val = 0 :=
  ofNat_inj (by omega) (by decide)

theorem p38_at (o : Fin 256) :
    k0_pay38 (F := Ideal) (k0_pay22 v38) k0_pay24 (k0_pay26 v38) (ix2 b o) = num (thresh o < running v38 b o) := by
  show Scalar.select (Ideal.cmp .ogt (running v38 b o) (Scalar.select (IntOp.cmpi .eq (iota .tc S8x256 32 [1] iota_S8x256_d1_w32 (ix2 b o)) 0#32)
      (Ideal.ofBits .f32 0xFF800000#32) (Ideal.ofBits .f32 0x00000000#32)))
    (Ideal.ofBits .f32 0x3F800000#32) (Ideal.ofBits .f32 0x00000000#32) = _
  rw [iota_single_apply, one, zero, neg_inf, WordCmp.cmpi_eq_eq, Scalar.select_ofBool]
  have e : (if decide (BitVec.ofNat 32 ((ix2 b o : S8x256.Idx) 1).val = 0#32) = true then (⊥ : EReal) else 0) = thresh o := by
    unfold thresh
    exact if_congr (decide_eq_true_iff.trans (ofNat_zero o)) rfl rfl
  refine (congrArg (fun z => Scalar.select (Ideal.cmp .ogt (running v38 b o) z) (1 : EReal) 0) e).trans ?_
  unfold Ideal.cmp
  rw [Scalar.select_ofBool]
  exact choice_num _ _ Iff.rfl

theorem p39_at (o : Fin 256) :
    k0_pay39 (F := Ideal) (k0_pay22 v38) k0_pay24 (k0_pay26 v38) (ix2 b o) = BitVec.ofBool (decide (1 < running v38 b o)) := by
  show Ideal.cmp .ogt (running v38 b o) (Ideal.ofBits .f32 0x3F800000#32) = _
  rw [one]
  rfl

theorem real_ofNat_inj (k o : Fin 256) : (((k.val : ℝ) : EReal) = ((o.val : ℝ) : EReal)) ↔ k = o := by
  rw [EReal.coe_eq_coe_iff, Nat.cast_inj]
  exact ⟨Fin.ext, fun h => by rw [h]⟩

theorem p37_at (v33 : FVec Ideal S8x256 .f32) (o k : Fin 256) (h : v33 (ix2 b o) = ((k.val : ℝ) : EReal)) :
    k0_pay37 v33 (ix2 b o) = num (k ≠ o) := by
  show Scalar.select (Ideal.cmp .one (v33 (ix2 b o)) (((iota .tc S8x256 32 [1] iota_S8x256_d1_w32 (ix2 b o)).toInt : ℝ) : EReal))
    (Ideal.ofBits .f32 0x3F800000#32) (Ideal.ofBits .f32 0x00000000#32) = _
  rw [iota_single_apply, one, zero, h, toInt_ofNat _ (show o.val < 512 by omega)]
  unfold Ideal.cmp
  rw [Scalar.select_ofBool]
  rw [Int.cast_natCast]
  exact choice_num _ _ (not_congr (real_ofNat_inj k o))

end Running

/-! ## The last row -/

theorem one_sub_num (p q : Prop) : (1 : EReal) - num p * num q = num ¬(p ∧ q) := by
  have h11 : (1 : EReal) - 1 = 0 := by rw [← EReal.coe_one, ← EReal.coe_sub, sub_self, EReal.coe_zero]
  by_cases hp : p <;> by_cases hq : q
  · rw [num_true hp, num_true hq, num_false (not_not.mpr ⟨hp, hq⟩), mul_one, h11]
  · rw [num_false hq, num_true (fun h => hq h.2), mul_zero, sub_zero]
  · rw [num_false hp, num_true (fun h => hp h.1), zero_mul, sub_zero]
  · rw [num_false hp, num_true (fun h => hp h.1), zero_mul, sub_zero]

theorem half_lt_num (p : Prop) : ((1 / 2 : ℝ) : EReal) < num p ↔ p := by
  by_cases hp : p
  · rw [num_true hp, ← EReal.coe_one, EReal.coe_lt_coe_iff]
    exact ⟨fun _ => hp, fun _ => by norm_num⟩
  · rw [num_false hp, ← EReal.coe_zero, EReal.coe_lt_coe_iff]
    exact ⟨fun h => absurd h (by norm_num), fun h => absurd h hp⟩

theorem slt_255 (o : Fin 256) : IntOp.cmpi .slt (BitVec.ofNat 32 o.val) 255#32 = BitVec.ofBool (decide (o.val < 255)) := by
  rw [WordCmp.cmpi_slt_eq, toInt_ofNat o.val (by omega), show (255#32 : BitVec 32).toInt = 255 from rfl]
  refine congrArg BitVec.ofBool (decide_eq_decide.mpr ?_)
  omega

theorem select_dec {α : Type} (p : Prop) [Decidable p] (a b : α) : Scalar.select (BitVec.ofBool (decide p)) a b = if p then a else b := by
  rw [Scalar.select_ofBool]
  exact if_congr decide_eq_true_iff rfl rfl

section LastRow
variable (M : Fin 256 → Fin 256 → EReal) (b : Fin 8)
variable (v18 : IVec S8x256 32) (h18 : ∀ o : Fin 256, v18 (ix2 b o) = BitVec.ofNat 32 (mcol M o).val)
variable (v38 : FVec Ideal S8x256 .f32) (h38 : ∀ o : Fin 256, v38 (ix2 b o) = M last o)
variable (v116 : FVec Ideal S8x256 .f32) (h116 : ∀ o : Fin 256, v116 (ix2 b o) = num (top M o))
variable (v121 : FVec Ideal S8x256 .f32) (h121 : ∀ o : Fin 256, v121 (ix2 b o) = num (stat M o))
variable (R : Fin 256 → EReal) (hR : ∀ o, top M o → R o = M last o)
variable (v130 : FVec Ideal S8x256 .f32) (h130 : ∀ o : Fin 256, v130 (ix2 b o) = num (thresh o < R o))
variable (v132 : IVec S8x256 1) (h132 : ∀ o : Fin 256, v132 (ix2 b o) = BitVec.ofBool (decide (1 < R o)))

/-- Column by column, what the kernel writes as long as no 1 was written. -/
def preV : FVec Ideal S8x256 .f32 :=
  select (cmpi .eq v18 (broadcast S8x256 255#32))
    (subf (broadcast S8x256 (Scalar.ofBits (F := Ideal) .f32 0x3F800000#32)) (mulf v116 v130)) v121

/-- The same once a 1 was written. -/
def postV : FVec Ideal S8x256 .f32 :=
  select (cmpi .eq v18 (broadcast S8x256 255#32))
    (subf (broadcast S8x256 (Scalar.ofBits (F := Ideal) .f32 0x3F800000#32)) (mulf v116
      (select v132 (broadcast S8x256 (Scalar.ofBits (F := Ideal) .f32 0x3F800000#32))
        (broadcast S8x256 (Scalar.ofBits (F := Ideal) .f32 0x00000000#32))))) v121

include h18 h116 h121 hR h130 in
theorem preV_at (o : Fin 256) : preV v18 v116 v121 v130 (ix2 b o) = num (pre M o) := by
  show Scalar.select (IntOp.cmpi .eq (v18 (ix2 b o)) 255#32)
    (Ideal.ofBits .f32 0x3F800000#32 - v116 (ix2 b o) * v130 (ix2 b o)) (v121 (ix2 b o)) = _
  rw [one, h18, h116, h121, h130, one_sub_num, WordCmp.cmpi_eq_eq]
  refine (select_dec _ _ _).trans ?_
  unfold pre
  by_cases hm : mcol M o = last
  · rw [if_pos ((ofNat_last _).mpr hm), if_pos hm]
    exact num_congr (not_congr ⟨fun h => ⟨h.1, hR o h.1 ▸ h.2⟩, fun h => ⟨h.1, (hR o h.1).symm ▸ h.2⟩⟩)
  · rw [if_neg fun h => hm ((ofNat_last _).mp h), if_neg hm]

include h18 h116 h121 hR h132 in
theorem postV_at (o : Fin 256) : postV v18 v116 v121 v132 (ix2 b o) = num (RowMath.post M o) := by
  show Scalar.select (IntOp.cmpi .eq (v18 (ix2 b o)) 255#32)
    (Ideal.ofBits .f32 0x3F800000#32 - v116 (ix2 b o) * Scalar.select (v132 (ix2 b o)) (Ideal.ofBits .f32 0x3F800000#32)
      (Ideal.ofBits .f32 0x00000000#32)) (v121 (ix2 b o)) = _
  have e : Scalar.select (BitVec.ofBool (decide (1 < R o))) (1 : EReal) 0 = num (1 < R o) := by
    rw [Scalar.select_ofBool]
    exact choice_num _ _ Iff.rfl
  rw [one, zero, h18, h116, h121, h132, e, one_sub_num, WordCmp.cmpi_eq_eq]
  refine (select_dec _ _ _).trans ?_
  unfold RowMath.post
  by_cases hm : mcol M o = last
  · rw [if_pos ((ofNat_last _).mpr hm), if_pos hm]
    exact num_congr (not_congr ⟨fun h => ⟨h.1, hR o h.1 ▸ h.2⟩, fun h => ⟨h.1, (hR o h.1).symm ▸ h.2⟩⟩)
  · rw [if_neg fun h => hm ((ofNat_last _).mp h), if_neg hm]

/-- The first column at which the kernel writes 1, 512 where there is none. -/
def firstOne (preV : FVec Ideal S8x256 .f32) : IVec S8 32 :=
  multiReductionI .minsi [1] S8 (select (cmpf .ogt preV (broadcast S8x256 (Scalar.ofBits (F := Ideal) .f32 0x3F000000#32)))
    (select (cmpi .slt (iota .tc S8x256 32 [1] iota_S8x256_d1_w32) (broadcast S8x256 255#32)) (iota .tc S8x256 32 [1] iota_S8x256_d1_w32)
      (broadcast S8x256 512#32)) (broadcast S8x256 512#32)) 2147483647#32 reduces_S8x256_S8 rfl

/-- A column is at or before that one exactly when no column before it writes 1. -/
theorem firstOne_at (V : FVec Ideal S8x256 .f32) (hV : ∀ o : Fin 256, V (ix2 b o) = num (pre M o)) (o : Fin 256) (ho : o.val < 255) :
    (BitVec.ofNat 32 o.val).toInt ≤ (firstOne V (ix1 b)).toInt ↔ ¬∃ j, j < o ∧ pre M j := by
  classical
  have hg : ∀ k : Fin 256, select (cmpf .ogt V (broadcast S8x256 (Scalar.ofBits (F := Ideal) .f32 0x3F000000#32)))
      (select (cmpi .slt (iota .tc S8x256 32 [1] iota_S8x256_d1_w32) (broadcast S8x256 255#32)) (iota .tc S8x256 32 [1] iota_S8x256_d1_w32)
        (broadcast S8x256 512#32)) (broadcast S8x256 512#32) (ix2 b k)
      = if pre M k ∧ k.val < 255 then BitVec.ofNat 32 k.val else 512#32 := fun k => by
    show Scalar.select (Ideal.cmp .ogt (V (ix2 b k)) (Ideal.ofBits .f32 0x3F000000#32))
      (Scalar.select (IntOp.cmpi .slt (iota .tc S8x256 32 [1] iota_S8x256_d1_w32 (ix2 b k)) 255#32)
        (iota .tc S8x256 32 [1] iota_S8x256_d1_w32 (ix2 b k)) 512#32) 512#32 = _
    rw [iota_single_apply, half, hV]
    refine (congrArg (fun z => Scalar.select (Ideal.cmp .ogt (num (pre M k)) ((1 / 2 : ℝ) : EReal))
      (Scalar.select z (BitVec.ofNat 32 k.val) 512#32) 512#32) (slt_255 k)).trans ?_
    rw [select_dec]
    unfold Ideal.cmp
    refine (select_dec _ _ _).trans ?_
    by_cases hp : pre M k
    · rw [if_pos ((half_lt_num _).mpr hp)]
      exact if_congr ⟨fun h => ⟨hp, h⟩, fun h => h.2⟩ rfl rfl
    · rw [if_neg fun h => hp ((half_lt_num _).mp h), if_neg fun h => hp h.1]
  have e : firstOne V (ix1 b) = Finset.univ.fold IntOp.minsi 2147483647#32 fun k : Fin 256 =>
      select (cmpf .ogt V (broadcast S8x256 (Scalar.ofBits (F := Ideal) .f32 0x3F000000#32)))
      (select (cmpi .slt (iota .tc S8x256 32 [1] iota_S8x256_d1_w32) (broadcast S8x256 255#32)) (iota .tc S8x256 32 [1] iota_S8x256_d1_w32)
        (broadcast S8x256 512#32)) (broadcast S8x256 512#32) (ix2 b k) := min_row _ b
  rw [e, toInt_ofNat o.val (by omega)]
  rcases least_marked (fun k => pre M k ∧ k.val < 255) _ hg with ⟨k, hk, hmin, hfold⟩ | ⟨hnone, hfold⟩
  · rw [hfold, toInt_ofNat k.val (by omega)]
    constructor
    · rintro hle ⟨j, hj, hp⟩
      have hj' : j.val < o.val := hj
      have hkj : k.val ≤ j.val := hmin j ⟨hp, by omega⟩
      omega
    · intro hno
      by_contra hlt
      exact hno ⟨k, Fin.lt_def.mpr (by omega), hk.1⟩
  · rw [hfold, show (512#32 : BitVec 32).toInt = 512 from rfl]
    constructor
    · rintro - ⟨j, hj, hp⟩
      have hj' : j.val < o.val := hj
      exact hnone j ⟨hp, by omega⟩
    · intro _
      omega

include h18 h38 h116 h121 hR h130 h132 in
/-- The last row the kernel writes. -/
theorem p42_at (r o : Fin 256) :
    k0_pay42 v18 v38 (iota .tc S8x256 32 [1] iota_S8x256_d1_w32) v116 v121 v130 v132 (Scalar.ofBits (F := Ideal) .f32 0x3F800000#32) (ix3 b r o)
      = if o.val < 255 then num (closed M o) else unmark (M last o) := by
  unfold k0_pay42
  refine (congrArg (fun z => broadcastTo S8x256x256 z broadcasts_S8x1x256_S8x256x256 (ix3 b r o)) (shapeCast_self _ _)).trans
    ((spread_rows _ b r o).trans ?_)
  have e157 : broadcastTo S8x256 (shapeCast S8x1 (firstOne (preV v18 v116 v121 v130)) shapeCasts_S8_S8x1) broadcasts_S8x1_S8x256 (ix2 b o)
      = firstOne (preV v18 v116 v121 v130) (ix1 b) := by
    refine (broadcastTo_apply _ _ _ (ix2 b (0 : Fin 1)) fun a => ?_).trans (shapeCast_apply _ _ _ _ ?_)
    · match a with
      | ⟨0, _⟩ => rfl
      | ⟨1, _⟩ => rfl
    · rw [Shape.rowMajor_val_two, Shape.rowMajor_val_one]
      show b.val = b.val * 1 + 0
      omega
  show Scalar.select (IntOp.cmpi .slt (iota .tc S8x256 32 [1] iota_S8x256_d1_w32 (ix2 b o)) 255#32)
    (Scalar.select (IntOp.cmpi .sle (iota .tc S8x256 32 [1] iota_S8x256_d1_w32 (ix2 b o))
      (broadcastTo S8x256 (shapeCast S8x1 (firstOne (preV v18 v116 v121 v130)) shapeCasts_S8_S8x1) broadcasts_S8x1_S8x256 (ix2 b o)))
      (preV v18 v116 v121 v130 (ix2 b o)) (postV v18 v116 v121 v132 (ix2 b o)))
    (Scalar.select (Ideal.cmp .oeq (v38 (ix2 b o)) (Ideal.ofBits .f32 0xBF800000#32)) (Ideal.ofBits .f32 0x00000000#32) (v38 (ix2 b o))) = _
  rw [e157, iota_single_apply, preV_at M b v18 h18 v116 h116 v121 h121 R hR v130 h130,
    postV_at M b v18 h18 v116 h116 v121 h121 R hR v132 h132, h38, zero, neg_one]
  refine (congrArg (fun z => Scalar.select z _ _) (slt_255 o)).trans ((select_dec _ _ _).trans ?_)
  by_cases ho : o.val < 255
  · rw [if_pos ho, if_pos ho, WordCmp.cmpi_sle_eq]
    refine (select_dec _ _ _).trans ?_
    have hf := firstOne_at M b (preV v18 v116 v121 v130) (preV_at M b v18 h18 v116 h116 v121 h121 R hR v130 h130) o ho
    unfold closed
    by_cases hx : ∃ j, j < o ∧ pre M j
    · rw [if_pos hx]
      exact if_neg fun h => hf.mp h hx
    · rw [if_neg hx]
      exact if_pos (hf.mpr hx)
  · rw [if_neg ho, if_neg ho]
    unfold Ideal.cmp
    refine (select_dec _ _ _).trans ?_
    rfl

end LastRow

/-! ## The block's results -/

variable (x0 : Vec Ideal S2048x2048 .f32) (x1 : Vec Ideal S2048x256 .f32)

theorem ld0 : View.ld x0 r0_0 = x0 := View.ld_unit_zero (by decide) _ x0
theorem ld1 : View.ld x1 r0_1 = x1 := View.ld_unit_zero (by decide) _ x1

/-- Every entry of the block's 8 matrices is the closed form's. -/
theorem block_at (b : Fin 8) (r o : Fin 256) :
    k0_pay58 (F := Ideal) x0 x1 (ix3 b r o) = final (bbase x0 x1 b) r o := by
  unfold k0_pay58 k0_pay55 k0_pay56 k0_pay57 k0_pay54 k0_pay53 k0_pay52 k0_pay51
  rw [ld0, ld1]
  have hL : row (k0_pay7 (F := Ideal) x0 x1) b = fun o => bbase x0 x1 b last o := funext fun o => p7_at x0 x1 b o
  have htop : ∀ o, (∀ j, o ≤ j → row (k0_pay7 (F := Ideal) x0 x1) b j ≤ row (k0_pay7 (F := Ideal) x0 x1) b o) ↔ top (bbase x0 x1 b) o := fun o => by
    rw [hL]; exact Iff.rfl
  have h42 := p42_at (bbase x0 x1 b) b (k0_pay5 x0 x1) (p5_at x0 x1 b) (k0_pay7 x0 x1) (p7_at x0 x1 b) _
    (fun o => (p36_at (k0_pay7 (F := Ideal) x0 x1) b o).trans (num_congr (htop o))) _
    (fun o => (p37_at b (k0_pay6 x0 x1) o _ (p6_at x0 x1 b o)).trans (num_congr Iff.rfl)) (running (k0_pay7 (F := Ideal) x0 x1) b)
    (fun o ho => (running_own _ b o ((htop o).mpr ho)).trans (p7_at x0 x1 b o)) _ (p38_at (k0_pay7 (F := Ideal) x0 x1) b) _
    (p39_at (k0_pay7 (F := Ideal) x0 x1) b) r o
  have h40 : k0_pay40 (k0_pay4 (F := Ideal) x0 x1) (ix3 b r o) = unmark (bbase x0 x1 b r o) := by
    show Scalar.select (Ideal.cmp .oeq (k0_pay4 (F := Ideal) x0 x1 (ix3 b r o)) (Ideal.ofBits .f32 0xBF800000#32)) (Ideal.ofBits .f32 0x00000000#32)
      (k0_pay4 (F := Ideal) x0 x1 (ix3 b r o)) = _
    rw [p4_at, zero, neg_one]
    unfold Ideal.cmp
    exact select_dec _ _ _
  have h41 : k0_pay41 (iota .tc S8x256x256 32 [1] iota_S8x256x256_d1_w32) (ix3 b r o) = BitVec.ofBool (decide (BitVec.ofNat 32 r.val = 255#32)) := by
    show IntOp.cmpi .eq (iota .tc S8x256x256 32 [1] iota_S8x256x256_d1_w32 (ix3 b r o)) 255#32 = _
    rw [iota_single_apply, WordCmp.cmpi_eq_eq]
  unfold k0_pay43
  show Scalar.select (k0_pay41 _ (ix3 b r o)) (k0_pay42 _ _ _ _ _ _ _ _ (ix3 b r o)) (k0_pay40 _ (ix3 b r o)) = _
  refine (congrArg₂ (fun c q => Scalar.select c _ q) h41 h40).trans ((select_dec _ _ _).trans ?_)
  unfold final
  by_cases hr : r = last
  · rw [if_pos ((ofNat_last r).mpr hr)]
    refine h42.trans ?_
    subst hr
    by_cases ho : o.val < 255
    · rw [if_pos ho, if_pos ⟨rfl, ho⟩]
    · rw [if_neg ho, if_neg fun h => ho h.2]
  · rw [if_neg fun h => hr ((ofNat_last r).mp h), if_neg fun h => hr h.1]

end Cert.KernelIdeal.Read

end
-- ==== Proof.KerBlock.lean ====
/- The two blocks one grid point writes, at an index: both hold the closed form of the point's 8 matrices, the second one column
   first. -/
module

public import proofs.«01_k».proof.Proof.KerRead

@[expose] public section

set_option maxRecDepth 16384

noncomputable section

namespace Cert.KernelIdeal.Read

open Idealize.ShloMosaic hiding ix0 ix1 ix2 ix3
open Idealize.ShloMosaic.ValueIdx Cert.KernelIdeal Cert.KernelIdeal.Gen Cert.RowMath

variable (x0 : Vec Ideal S2048x2048 .f32) (x1 : Vec Ideal S2048x256 .f32)

theorem out2_at (b : Fin 8) (r o : Fin 256) : out0_2 (F := Ideal) x0 x1 (ix2 (brow b r) o) = final (bbase x0 x1 b) r o := by
  unfold out0_2
  rw [View.canon_cons_unit_zero (by decide)]
  unfold k0_pay44
  refine (shapeCast_apply _ shapeCasts_S8x256x256_S2048x256 (ix2 (brow b r) o) (ix3 b r o) ?_).trans (block_at x0 x1 b r o)
  rw [Shape.rowMajor_val_two, Shape.rowMajor_val_three]
  show (b.val * 256 + r.val) * 256 + o.val = (256 * b.val + r.val) * 256 + o.val
  omega

/-- The closed form, column first. -/
def colFirst : S256x8x256.Idx → EReal := fun y => final (bbase x0 x1 (y 1)) (y 2) (y 0)

/-- One batch's matrix cut out, transposed and given a middle axis. -/
theorem turned (n : ℕ) (hn : n < 8) (v : FVec Ideal S8x256x256 .f32) (hs : S8x256x256.Slices ![n, 0, 0] S1x256x256)
    (o r : Fin 256) :
    shapeCast S256x1x256 (transpose S256x256 [1, 0] (shapeCast S256x256 (extractStridedSlice S1x256x256 ![n, 0, 0] v hs)
      shapeCasts_S1x256x256_S256x256) transposes_S256x256_p1_0_S256x256) shapeCasts_S256x256_S256x1x256 (ix3 o (0 : Fin 1) r)
      = v (ix3 (⟨n, hn⟩ : Fin 8) r o) := by
  refine (shapeCast_apply _ _ _ (ix2 o r) ?_).trans ((transpose_apply _ _ _ _ (ix2 r o) fun a => ?_).trans
    ((shapeCast_apply _ _ _ (ix3 (0 : Fin 1) r o) ?_).trans (extractStridedSlice_apply _ _ _ _ _ fun a => ?_)))
  · rw [Shape.rowMajor_val_two, Shape.rowMajor_val_three]
    show o.val * 256 + r.val = (o.val * 1 + 0) * 256 + r.val
    omega
  · match a with
    | ⟨0, _⟩ => rfl
    | ⟨1, _⟩ => rfl
  · rw [Shape.rowMajor_val_two, Shape.rowMajor_val_three]
    show (0 * 256 + r.val) * 256 + o.val = r.val * 256 + o.val
    omega
  · match a with
    | ⟨0, _⟩ => rfl
    | ⟨1, _⟩ => exact (Nat.zero_add _).symm
    | ⟨2, _⟩ => exact (Nat.zero_add _).symm

/-- A store of one turned matrix is the column-first closed form on the plane it covers. -/
theorem piece_at (n : ℕ) (hn : n < 8) (hs : S8x256x256.Slices ![n, 0, 0] S1x256x256)
    (inb : ∀ a, (![0, n, 0] : Fin 3 → ℕ) a + S256x1x256.size a ≤ S256x8x256.size a)
    (x : (Rect.unit (s := S256x8x256) ![0, n, 0] S256x1x256.size inb).shape.Idx) :
    shapeCast S256x1x256 (transpose S256x256 [1, 0] (shapeCast S256x256 (extractStridedSlice S1x256x256 ![n, 0, 0]
      (k0_pay58 (F := Ideal) x0 x1) hs) shapeCasts_S1x256x256_S256x256) transposes_S256x256_p1_0_S256x256) shapeCasts_S256x256_S256x1x256 x
      = colFirst x0 x1 ((Rect.unit (s := S256x8x256) ![0, n, 0] S256x1x256.size inb).emb x) := by
  have ex : x = ix3 (x 0) (0 : Fin 1) (x 2) := by
    funext a
    match a with
    | ⟨0, _⟩ => rfl
    | ⟨1, _⟩ => exact Fin.ext (by have := (x 1).isLt; change (x 1).val < 1 at this; show (x 1).val = 0; omega)
    | ⟨2, _⟩ => rfl
  have e0 : ((Rect.unit (s := S256x8x256) ![0, n, 0] S256x1x256.size inb).emb x) 0 = x 0 := Fin.ext (by
    show 0 + 1 * (x 0).val = (x 0).val; omega)
  have e1 : ((Rect.unit (s := S256x8x256) ![0, n, 0] S256x1x256.size inb).emb x) 1 = (⟨n, hn⟩ : Fin 8) := Fin.ext (by
    have := (x 1).isLt; change (x 1).val < 1 at this
    show n + 1 * (x 1).val = n; omega)
  have e2 : ((Rect.unit (s := S256x8x256) ![0, n, 0] S256x1x256.size inb).emb x) 2 = x 2 := Fin.ext (by
    show 0 + 1 * (x 2).val = (x 2).val; omega)
  unfold colFirst
  rw [e0, e1, e2]
  refine (congrArg _ ex).trans ?_
  exact (turned n hn _ hs (x 0) (x 2)).trans (block_at x0 x1 ⟨n, hn⟩ (x 2) (x 0))

theorem out3_at (y : S256x8x256.Idx) : out0_3 (F := Ideal) x0 x1 y = colFirst x0 x1 y := by
  unfold out0_3
  refine View.canon_apply_of_pieces (Val := Elt Ideal) (e := .f32) (colFirst x0 x1) _ ?_ y (cover0_3 _ _ _ _ _ _ _ _ y)
  intro p hp
  simp only [List.mem_cons, List.not_mem_nil, or_false] at hp
  rcases hp with rfl | rfl | rfl | rfl | rfl | rfl | rfl | rfl
  · exact piece_at x0 x1 7 (by decide) slices_S8x256x256_o7_0_0_S1x256x256 inb_S256x8x256_S256x1x256_0_7_0
  · exact piece_at x0 x1 6 (by decide) slices_S8x256x256_o6_0_0_S1x256x256 inb_S256x8x256_S256x1x256_0_6_0
  · exact piece_at x0 x1 5 (by decide) slices_S8x256x256_o5_0_0_S1x256x256 inb_S256x8x256_S256x1x256_0_5_0
  · exact piece_at x0 x1 4 (by decide) slices_S8x256x256_o4_0_0_S1x256x256 inb_S256x8x256_S256x1x256_0_4_0
  · exact piece_at x0 x1 3 (by decide) slices_S8x256x256_o3_0_0_S1x256x256 inb_S256x8x256_S256x1x256_0_3_0
  · exact piece_at x0 x1 2 (by decide) slices_S8x256x256_o2_0_0_S1x256x256 inb_S256x8x256_S256x1x256_0_2_0
  · exact piece_at x0 x1 1 (by decide) slices_S8x256x256_o1_0_0_S1x256x256 inb_S256x8x256_S256x1x256_0_1_0
  · exact piece_at x0 x1 0 (by decide) slices_S8x256x256_o0_0_0_S1x256x256 inb_S256x8x256_S256x1x256_0_0_0

end Cert.KernelIdeal.Read

end
-- ==== Proof.KerValue.lean ====
/- The kernel's two results, at an index: what the host lines before the launch hand it, what each of the four grid points
   writes of each result, the two arrays the points leave together, and the host line after it. -/
module

public import proofs.«01_k».proof.Proof.KerBlock
public import Idealize.ShloMosaic.Lib.Pipeline.Value
public import Idealize.ShloMosaic.Lib.Pipeline.ValueKit.Geometry

@[expose] public section

set_option maxRecDepth 16384

noncomputable section

namespace Cert.KernelIdeal.Read

open Idealize.ShloMosaic hiding ix0 ix1 ix2 ix3
open Idealize.ShloMosaic.TcCoe Idealize.SL.Sem
open Idealize.ShloMosaic.ValueIdx Cert.KernelIdeal Cert.KernelIdeal.Gen Cert.RowMath Cert.Product

variable (m : (ℓ : Loc nD τ sig) → Buf (Elt Ideal) ℓ) (ρ : Dev nD → PrngReg) (c : Dev nD)

/-- The two arguments as launched. -/
abbrev argX : S32x256x2048.Idx → EReal := m ((c.tc : Thread nD τ).loc main_arg0)
abbrev argW : S256x2048.Idx → EReal := m ((c.tc : Thread nD τ).loc main_arg1)

/-- The launch finds the first argument with its batches' rows in one column of rows, -/
theorem entry_v0 : V m c main_v0 = shapeCast S8192x2048 (argX m c) shapeCasts_S32x256x2048_S8192x2048 := by
  show StableHlo.after (List.flatten [hostOps0]) (fun b => m (c, b)) (Proc.devRef .tc main_v0) = _
  simp only [hostOps0, List.flatten_cons, List.flatten_nil, List.append_nil]
  after_results
  rfl

/-- and the second transposed. -/
theorem entry_v1 : V m c main_v1 = transpose S2048x256 [1, 0] (argW m c) transposes_S256x2048_S2048x256_1_0 := by
  show StableHlo.after (List.flatten [hostOps0]) (fun b => m (c, b)) (Proc.devRef .tc main_v1) = _
  simp only [hostOps0, List.flatten_cons, List.flatten_nil, List.append_nil]
  after_results

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
theorem index_2 : ∀ t : Fin cfg0.N, win0_2.index t = ![t.val, 0] :=
  (by decide +kernel : ∀ t : Fin grid0.N, win0_2.index t = ![t.val, 0])
theorem index_3 : ∀ t : Fin cfg0.N, win0_3.index t = ![0, t.val, 0] :=
  (by decide +kernel : ∀ t : Fin grid0.N, win0_3.index t = ![0, t.val, 0])

theorem lt_four (t : Fin cfg0.N) : t.val < 4 := t.isLt.trans_eq N_0

/-- The batch that point `t` treats as its `b`th. -/
def batch (t : Fin cfg0.N) (b : Fin 8) : Fin 32 := ⟨8 * t.val + b.val, by have := lt_four t; omega⟩

theorem iblk0_at (t : Fin cfg0.N) (b : Fin 8) (r : Fin 256) (k : Fin 2048) :
    iblk m c 0 t (ix2 (brow b r) k) = argX m c (ix3 (batch t b) r k) := by
  blk_simp [iblk]
  rw [show V m c (Pipeline.arrRef spec0 0) = _ from entry_v0 m c]
  refine shapeCast_apply _ _ _ (ix3 (batch t b) r k) ?_
  rw [Shape.rowMajor_val_two, Shape.rowMajor_val_three]
  blk_simp [index_0]
  show ((8 * t.val + b.val) * 256 + r.val) * 2048 + k.val = (t.val * 2048 + (256 * b.val + r.val)) * 2048 + k.val
  omega

theorem iblk1_at (t : Fin cfg0.N) (k : Fin 2048) (o : Fin 256) :
    iblk m c 1 t (ix2 k o) = argW m c (ix2 o k) := by
  blk_simp [iblk]
  rw [show V m c (Pipeline.arrRef spec0 1) = _ from entry_v1 m c]
  refine transpose_apply _ _ _ _ (ix2 o k) fun a => ?_
  match a with
  | ⟨0, _⟩ => blk_simp [index_1]; rfl
  | ⟨1, _⟩ => blk_simp [index_1]; rfl

/-- So point `t` starts from its batches' marked products. -/
theorem bbase_at (t : Fin cfg0.N) (b : Fin 8) :
    bbase (iblk m c 0 t) (iblk m c 1 t) b = base (argX m c) (argW m c) (batch t b) := by
  funext r o
  unfold bbase base bprod prod
  refine congrArg mark (Finset.sum_congr rfl fun k _ => ?_)
  rw [iblk0_at, iblk1_at]

theorem final_congr {B B' : Fin 32} {r r' o o' : Fin 256} (hB : B = B') (hr : r = r') (ho : o = o') :
    final (base (argX m c) (argW m c) B) r o = final (base (argX m c) (argW m c) B') r' o' := by
  rw [hB, hr, ho]

/-! ## The first result -/

/-- The first result, the batches' rows in one column of rows. -/
def rows : S8192x256.Idx → EReal := fun i =>
  final (base (argX m c) (argW m c) ⟨(i 0).val / 256, by have := (i 0).isLt; have : S8192x256.size 0 = 8192 := rfl; omega⟩)
    ⟨(i 0).val % 256, Nat.mod_lt _ (by decide)⟩ (i 1)

theorem rows_at (i : S8192x256.Idx) (B : Fin 32) (r o : Fin 256) (h0 : (i 0).val = 256 * B.val + r.val)
    (h1 : (i 1).val = o.val) : rows m c i = final (base (argX m c) (argW m c) B) r o := by
  unfold rows
  refine final_congr m c ?_ ?_ ?_
  · exact Fin.ext (show (i 0).val / 256 = B.val by omega)
  · exact Fin.ext (show (i 0).val % 256 = r.val by omega)
  · exact Fin.ext h1

theorem point2 (t : Fin cfg0.N) (y : S2048x256.Idx) (i : S8192x256.Idx) (h0 : (i 0).val = t.val * 2048 + (y 0).val)
    (h1 : (i 1).val = (y 1).val) : out0_2 (F := Ideal) (iblk m c 0 t) (iblk m c 1 t) y = rows m c i := by
  have hy0 : (y 0).val < 2048 := (y 0).isLt
  let b : Fin 8 := ⟨(y 0).val / 256, by omega⟩
  let r : Fin 256 := ⟨(y 0).val % 256, Nat.mod_lt _ (by decide)⟩
  have hy : y = ix2 (brow b r) (y 1) := by
    funext a
    match a with
    | ⟨0, _⟩ => exact Fin.ext (show (y 0).val = 256 * ((y 0).val / 256) + (y 0).val % 256 by omega)
    | ⟨1, _⟩ => rfl
  refine (congrArg (out0_2 (F := Ideal) (iblk m c 0 t) (iblk m c 1 t)) hy).trans ((out2_at _ _ b r (y 1)).trans ?_)
  rw [bbase_at]
  refine (rows_at m c i (batch t b) r (y 1) ?_ h1).symm
  show (i 0).val = 256 * (8 * t.val + (y 0).val / 256) + (y 0).val % 256
  omega

theorem array2 : (dats m 0 c).arrAt 2 cfg0.N = rows m c := by
  refine (dats m 0 c).arrAt_eq_of_covers 2 _ (by decide +kernel) fun t hf y => ?_
  blk_simp
  rw [after0_2]
  refine point2 m c t y _ ?_ ?_
  · blk_simp [index_2]
  · blk_simp [index_2]

/-! ## The second result -/

/-- The second result: column first, the last column left off. -/
def cols : S255x32x256.Idx → EReal := fun i =>
  final (base (argX m c) (argW m c) (i 1)) (i 2) ⟨(i 0).val, (i 0).isLt.trans (by decide)⟩

theorem point3 (t : Fin cfg0.N) (z : S256x8x256.Idx) (i : S255x32x256.Idx) (h0 : (i 0).val = (z 0).val)
    (h1 : (i 1).val = t.val * 8 + (z 1).val) (h2 : (i 2).val = (z 2).val) :
    out0_3 (F := Ideal) (iblk m c 0 t) (iblk m c 1 t) z = cols m c i := by
  refine (out3_at _ _ z).trans ?_
  unfold colFirst cols
  refine (congrArg (fun f => final f (z 2) (z 0)) (bbase_at m c t (z 1))).trans (final_congr m c ?_ ?_ ?_)
  · exact Fin.ext ((show 8 * t.val + (z 1).val = t.val * 8 + (z 1).val by omega).trans h1.symm)
  · exact Fin.ext h2.symm
  · exact Fin.ext h0.symm

theorem array3 : (dats m 0 c).arrAt 3 cfg0.N = cols m c := by
  refine (dats m 0 c).arrAt_eq_of_covers 3 _ (by decide +kernel) fun t hf y => ?_
  blk_simp
  rw [after0_3]
  refine point3 m c t _ _ ?_ ?_ ?_
  · blk_simp [index_3]
  · blk_simp [index_3]
  · blk_simp [index_3]

/-! ## The run -/

/-- The first result: batch, row, column. -/
def byBatch : S32x256x256.Idx → EReal := fun i => final (base (argX m c) (argW m c) (i 0)) (i 1) (i 2)

/-- The host line after the launch gives the first result its batch axis back. -/
theorem exit_v3 : Pipeline.afterTail₀ cfgs (dats m) 0 (V0 m) [hostOps1] c main_v3 = byBatch m c := by
  have e : Pipeline.afterTail₀ cfgs (dats m) 0 (V0 m) [hostOps1] c main_v3
      = shapeCast S32x256x256 (rows m c) shapeCasts_S8192x256_S32x256x256 := by
    unfold Pipeline.afterTail₀
    simp only [hostOps1, List.flatten_cons, List.flatten_nil, List.append_nil]
    after_results
    exact congrArg (fun v => shapeCast S32x256x256 v shapeCasts_S8192x256_S32x256x256)
      ((Pipeline.withArrays_arr spec0 (by decide) c (V0 m c) _ 2).trans (array2 m c))
  rw [e]
  funext i
  refine (shapeCast_apply _ _ i (ix2 (⟨256 * (i 0).val + (i 1).val, by
    have h0 : (i 0).val < 32 := (i 0).isLt; have h1 : (i 1).val < 256 := (i 1).isLt; omega⟩ : Fin 8192) (i 2 : Fin 256)) ?_).trans
    (rows_at m c _ (i 0) (i 1) (i 2) rfl rfl)
  rw [Shape.rowMajor_val_two, Shape.rowMajor_val_three]
  show (256 * (i 0).val + (i 1).val) * 256 + (i 2).val = ((i 0).val * 256 + (i 1).val) * 256 + (i 2).val
  omega

/-- Every execution ends with both results in closed form and the arguments as launched. -/
theorem run_values : θ_run defs (onTc (τ := τ) (main (F := Ideal))) ⟨m, fun _ => 0, ρ⟩ (fun r => ∀ c : Dev nD,
      r.2.mem ((c.tc : Thread nD τ).loc main_v3) = byBatch m c
      ∧ r.2.mem ((c.tc : Thread nD τ).loc main_v2_1) = cols m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 (by decide) (by decide))).trans (exit_v3 m c),
      ((h c).1 3).trans (array3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Read

end
-- ==== Proof.RefValue.lean ====
/- The reference's values at an index: the marked products before the loop, the position of each column's maximum, one trip
   of the loop as one step on each batch's matrix, and the two results after 255 trips. -/
module

public import proofs.«01_k».proof.Proof.RefTrip
public import proofs.«01_k».proof.Proof.FirstMax
public import proofs.«01_k».proof.Proof.Product
public import Idealize.ShloMosaic.Lib.ValueIdxCore
public import Idealize.ShloMosaic.Lib.Pointwise.SelectCore
public import Idealize.ShloMosaic.Lib.Pointwise.Contract
public import Idealize.ShloMosaic.Lib.DynamicIndex
public import Idealize.ShloMosaic.Lib.Routing.OpsSet

@[expose] public section

set_option maxRecDepth 16384

noncomputable section

namespace Cert.ReferenceIdeal.Read

open Idealize.ShloMosaic hiding ix0 ix1 ix2 ix3
open Idealize.ShloMosaic.ValueIdx Cert.ReferenceIdeal Cert.ReferenceIdeal.Gen Cert.ReferenceIdeal.Trip Cert.RowMath Cert.Product
  Cert.FirstMax

variable (x : (⟨S32x256x2048, .f32⟩ : BufTy).Contents (Elt Ideal)) (w : (⟨S256x2048, .f32⟩ : BufTy).Contents (Elt Ideal))

/-! ## Before the loop -/

theorem products_at (b : Fin 32) (r o : Fin 256) : products (F := Ideal) x w (ix3 b r o) = prod x w b r o := by
  unfold products Host.dotGeneral
  rw [Ideal.dotGeneral_apply, dot_S32x256x2048_S256x2048_S32x256x256_2_1_01_0_n_n.sum_contr₁ (a := 2) rfl (K := 2048) rfl]
  refine Finset.sum_congr rfl fun k _ => ?_
  refine congrArg₂ (fun u v => x u * w v) ?_ ?_
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem marked_at (b : Fin 32) (r o : Fin 256) : marked (F := Ideal) x w (ix3 b r o) = base x w b r o := by
  show Scalar.select (Ideal.cmp .oeq (products (F := Ideal) x w (ix3 b r o)) (Ideal.ofBits .f32 0x00000000#32))
    (Ideal.ofBits .f32 0xBF800000#32) (products (F := Ideal) x w (ix3 b r o)) = _
  rw [products_at, zero, neg_one]
  unfold Ideal.cmp
  rw [Scalar.select_ofBool]
  show (if decide _ = true then _ else _) = mark _
  unfold mark
  simp only [decide_eq_true_eq]

/-- The fiber of column `o` of batch `b`: the rows. -/
theorem drop_col (b : Fin 32) (o : Fin 256) (i : S32x256x256.Idx) :
    reducesTo_S32x256x256_S32x256_d1.drop i = ix2 b o ↔ ∃ k : Fin 256, i = ix3 b k o := by
  constructor
  · intro h
    refine ⟨i 1, ?_⟩
    funext a
    match a with
    | ⟨0, _⟩ => exact congrFun h 0
    | ⟨1, _⟩ => rfl
    | ⟨2, _⟩ => exact congrFun h 1
  · rintro ⟨k, rfl⟩
    funext a
    match a with
    | ⟨0, _⟩ => rfl
    | ⟨1, _⟩ => rfl

theorem topRows_eq (v : Arr Ideal S32x256x256 .f32) : topRows v = fun q => (Host.argReduce (F := Ideal) (reducer_argmax_f32_i32 (F := Ideal)) v
    (iotaInDim S32x256x256 32 1) (constant S_ .f32 0xFF800000#32) (constantI S_ 32 0#32) reducesTo_S32x256x256_S32x256_d1 h_S_ q).2 := rfl

/-- The position the reference keeps for column `o`: that of the column's first maximum. -/
theorem topRows_at (b : Fin 32) (o : Fin 256) : topRows (marked (F := Ideal) x w) (ix2 b o) = BitVec.ofNat 32 (mcol (base x w b) o).val := by
  refine (congrFun (topRows_eq _) (ix2 b o)).trans ((argReduce_snd _ _ _ _ reducesTo_S32x256x256_S32x256_d1 h_S_ (ix2 b o)
    (fun k => ix3 b k o) (drop_col b o) (fun k => rfl) neg_inf rfl).trans ?_)
  exact congrArg (fun f => BitVec.ofNat 32 (firstMax f).val) (funext fun k => marked_at x w b k o)

/-! ## One trip -/

variable (j : ℕ) (hj : j < 255) (v : Arr Ideal S32x256x256 .f32) (top : Arr Ideal S32x256 .i32)

/-- A word that is not negative is left as it is where a negative one would be counted from the end. -/
theorem keep (n : ℕ) (hn : n < 512) (y : BitVec 32) :
    Scalar.select (IntOp.cmpi .slt (BitVec.ofNat 32 n) 0#32) y (BitVec.ofNat 32 n) = BitVec.ofNat 32 n := by
  rw [WordCmp.cmpi_slt_eq, toInt_ofNat n hn, Scalar.select_ofBool]
  rw [if_neg (by simp)]

theorem wrap_at (k : BitVec 32) (a : Arr Ideal S_ .i32) (i : S_.Idx) (n : ℕ) (hn : n < 512) (h : a i = BitVec.ofNat 32 n) :
    wrap k a i = BitVec.ofNat 32 n := by
  show Scalar.select (IntOp.cmpi .slt (a i) 0#32) _ (a i) = _
  rw [h]
  exact keep n hn _

theorem wraps_at (k : BitVec 32) (a : Arr Ideal S32 .i32) (i : S32.Idx) (n : ℕ) (hn : n < 512) (h : a i = BitVec.ofNat 32 n) :
    wraps k a i = BitVec.ofNat 32 n := by
  show Scalar.select (IntOp.cmpi .slt (a i) 0#32) _ (a i) = _
  rw [h]
  exact keep n hn _

include hj in
theorem col_at (i : S_.Idx) : col (F := Ideal) j i = BitVec.ofNat 32 j := by
  unfold col column shapeCast
  refine (congrFun (Host.dynamicSlice_eq_extractStridedSlice (s := S255) S1 _ _ (fun _ => j) _ ⟨rfl, fun a => ?_⟩ fun a => ?_) _).trans ?_
  · match a with
    | ⟨0, _⟩ => show j + 1 ≤ 255; omega
  · match a with
    | ⟨0, _⟩ => exact toInt_ofNat j (by omega)
  generalize Shape.reshapeEquiv shapeCasts_S1_S_ i = q
  have h0 : (q 0).val = 0 := by have := (q 0).isLt; exact Nat.lt_one_iff.mp this
  show BitVec.ofNat 32 (j + (q 0).val) = _
  rw [h0, Nat.add_zero]

include hj in
theorem rowsOf_at (b : Fin 32) :
    rowsOf top (wrap 32#32 (constantI S_ 32 0#32)) (wrap 256#32 (col j)) (ix1 b) = top (ix2 b (⟨j, by omega⟩ : Fin 256)) := by
  unfold rowsOf
  rw [shapeCast_apply _ _ (ix1 b) (ix2 b (0 : Fin 1)) (by
    rw [Shape.rowMajor_val_two, Shape.rowMajor_val_one]
    show b.val * 1 + 0 = b.val
    omega)]
  refine (congrFun (Host.dynamicSlice_eq_extractStridedSlice (s := S32x256) S32x1 _ _ ![0, j] _ ⟨rfl, fun a => ?_⟩ fun a => ?_)
    (ix2 b (0 : Fin 1))).trans ?_
  · match a with
    | ⟨0, _⟩ => show 0 + 32 ≤ 32; omega
    | ⟨1, _⟩ => show j + 1 ≤ 256; omega
  · match a with
    | ⟨0, _⟩ => rfl
    | ⟨1, _⟩ => exact (congrArg BitVec.toInt (wrap_at _ _ _ j (by omega) (col_at j hj _))).trans (toInt_ofNat j (by omega))
  refine extractStridedSlice_apply _ _ _ _ _ fun a => ?_
  match a with
  | ⟨0, _⟩ => exact (Nat.zero_add _).symm
  | ⟨1, _⟩ => rfl

theorem target_at0 (i : Arr Ideal S_ .i32) : target i (ix1 (0 : Fin 2)) = 255#32 := by
  unfold target
  rw [concatenate_pair_apply]
  rfl

include hj in
theorem target_at1 : target (F := Ideal) (col j) (ix1 (1 : Fin 2)) = BitVec.ofNat 32 j := by
  unfold target
  rw [concatenate_pair_apply]
  exact wrap_at _ _ _ j (by omega) (col_at j hj _)

/-- The rows that trip `j` looks at. -/
abbrev picked : Arr Ideal S32 .i32 := rowsOf top (wrap 32#32 (constantI S_ 32 0#32)) (wrap 256#32 (col j))

/-- The batches' numbers. -/
abbrev lanes : Arr Ideal S32 .i32 := iotaInDim S32 32 0

theorem places_at0 (rows : Arr Ideal S32 .i32) (b : Fin 32) : places lanes rows (ix2 b (0 : Fin 2)) = BitVec.ofNat 32 b.val := by
  unfold places
  rw [concatenate_pair_apply]
  exact wraps_at _ _ _ b.val (by omega) rfl

variable (mc : Fin 32 → Fin 256 → Fin 256) (hmc : ∀ b o, top (ix2 b o) = BitVec.ofNat 32 (mc b o).val)

include hmc in
theorem places_at1 (b : Fin 32) : places lanes (picked j top) (ix2 b (1 : Fin 2)) = BitVec.ofNat 32 (mc b ⟨j, by omega⟩).val := by
  unfold places
  rw [concatenate_pair_apply]
  exact wraps_at _ _ _ _ (by omega) ((rowsOf_at j hj top b).trans (hmc b _))

variable (S : Fin 32 → Fin 256 → Fin 256 → EReal) (hS : ∀ b r o, v (ix3 b r o) = S b r o)

include hmc hS in
/-- The row the trip looks at: batch `b`'s row at the position kept for column `j`. -/
theorem look_at (b : Fin 32) (k : Fin 256) : look v lanes (picked j top) (ix2 b k) = S b (mc b ⟨j, by omega⟩) k := by
  rw [← hS]
  unfold look Host.gather
  refine congrArg v (funext fun a => Fin.ext ?_)
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (by decide +revert)]
    unfold GatherDims.start
    rw [dif_pos (by decide +revert)]
    have e : gather_S32x256x256_S32x2_S32x256_1_01_n_n_01_1_11256.siIdx (ix2 b k) ⟨0, by decide⟩ = ix2 b (0 : Fin 2) := by
      funext c; refine Fin.ext ?_
      match c with
      | ⟨0, _⟩ => rfl
      | ⟨1, _⟩ => rfl
    show min (places lanes (picked j top) (gather_S32x256x256_S32x2_S32x256_1_01_n_n_01_1_11256.siIdx (ix2 b k) ⟨0, _⟩)).toInt.toNat (32 - 1) + 0 + 0 = b.val
    rw [e, places_at0, toInt_ofNat _ (by omega)]
    omega
  | ⟨1, _⟩ =>
    rw [GatherDims.offCoord_eq_zero _ _ _ (by decide +revert)]
    unfold GatherDims.start
    rw [dif_pos (by decide +revert)]
    have e : gather_S32x256x256_S32x2_S32x256_1_01_n_n_01_1_11256.siIdx (ix2 b k) ⟨1, by decide⟩ = ix2 b (1 : Fin 2) := by
      funext c; refine Fin.ext ?_
      match c with
      | ⟨0, _⟩ => rfl
      | ⟨1, _⟩ => rfl
    show min (places lanes (picked j top) (gather_S32x256x256_S32x2_S32x256_1_01_n_n_01_1_11256.siIdx (ix2 b k) ⟨1, _⟩)).toInt.toNat (256 - 1) + 0 + 0
      = (mc b ⟨j, _⟩).val
    rw [e, places_at1 j hj top mc hmc, toInt_ofNat _ (by omega)]
    omega
  | ⟨2, _⟩ =>
    unfold GatherDims.start
    rw [dif_neg (by decide +revert)]
    show 0 + 0 + k.val = k.val
    omega

/-- The fiber of batch `b` of the rows looked at: the columns. -/
theorem drop_row (b : Fin 32) (i : S32x256.Idx) :
    reducesTo_S32x256_S32_d1.drop i = ix1 b ↔ ∃ k : Fin 256, i = ix2 b k := by
  constructor
  · intro h
    refine ⟨i 1, ?_⟩
    funext a
    match a with
    | ⟨0, _⟩ => exact congrFun h 0
    | ⟨1, _⟩ => rfl
  · rintro ⟨k, rfl⟩
    funext a
    match a with
    | ⟨0, _⟩ => rfl

include hmc hS in
theorem firsts_at (b : Fin 32) :
    firsts (look v lanes (picked j top)) (ix1 b) = BitVec.ofNat 32 (firstMax (S b (mc b ⟨j, by omega⟩))).val := by
  unfold firsts
  refine (argReduce_snd _ _ _ _ reducesTo_S32x256_S32_d1 h_S_ (ix1 b) (fun k => ix2 b k) (drop_row b) (fun k => rfl) neg_inf
    rfl).trans ?_
  exact congrArg (fun f => BitVec.ofNat 32 (firstMax f).val) (funext fun k => look_at j hj v top mc hmc S hS b k)

include hmc hS in
/-- What the trip writes: 1 where that row's first maximum is not column `j`, else 0. -/
theorem update_at (b : Fin 32) : update (col j) (firsts (look v lanes (picked j top))) (ix1 b)
    = num (firstMax (S b (mc b ⟨j, by omega⟩)) ≠ (⟨j, by omega⟩ : Fin 256)) := by
  show (((IntOp.cmpi .ne (firsts (look v lanes (picked j top)) (ix1 b)) (col (F := Ideal) j _)).toNat : ℝ) : EReal) = _
  rw [firsts_at j hj v top mc hmc S hS, col_at j hj, WordCmp.cmpi_ne_eq]
  by_cases h : firstMax (S b (mc b ⟨j, by omega⟩)) = (⟨j, by omega⟩ : Fin 256)
  · rw [num_false (not_not.mpr h), h]
    simp
  · rw [num_true h]
    have : BitVec.ofNat 32 (firstMax (S b (mc b ⟨j, by omega⟩))).val ≠ BitVec.ofNat 32 j := fun e =>
      h (Fin.ext ((ofNat_inj (by omega) (by omega)).mp e))
    simp [this]

theorem si_at (k : Fin 32) (c : Fin 2) (hc : c.val < scatter_S32x256x256_S2_S32_0_12_12_0.scatterDimsToOperandDims.length) :
    scatter_S32x256x256_S2_S32_0_12_12_0.siIdx (ix1 k) ⟨c.val, hc⟩ = ix1 c := by
  funext a; refine Fin.ext ?_
  match a with
  | ⟨0, _⟩ => rfl

/-- Where the trip's update for batch `k` starts: row 255, column `j`. -/
theorem start0 (k : Fin 32) : scatter_S32x256x256_S2_S32_0_12_12_0.start (ix1 k) (target (F := Ideal) (col j)) (0 : Fin 3) = 0 := by
  unfold ScatterDims.start
  rw [dif_neg (by decide)]

theorem start1 (k : Fin 32) : scatter_S32x256x256_S2_S32_0_12_12_0.start (ix1 k) (target (F := Ideal) (col j)) (1 : Fin 3) = 255 := by
  unfold ScatterDims.start
  rw [dif_pos (by decide)]
  refine (congrArg (fun q => (target (F := Ideal) (col j) q).toInt) (si_at k 0 (by decide))).trans ?_
  exact congrArg BitVec.toInt (target_at0 (col j))

include hj in
theorem start2 (k : Fin 32) : scatter_S32x256x256_S2_S32_0_12_12_0.start (ix1 k) (target (F := Ideal) (col j)) (2 : Fin 3) = (j : Int) := by
  unfold ScatterDims.start
  rw [dif_pos (by decide)]
  refine (congrArg (fun q => (target (F := Ideal) (col j) q).toInt) (si_at k 1 (by decide))).trans ?_
  exact (congrArg BitVec.toInt (target_at1 j hj)).trans (toInt_ofNat j (by omega))

include hj in
/-- Where the trip's update for batch `k` lands. -/
theorem lands (k b : Fin 32) (r o : Fin 256) :
    scatter_S32x256x256_S2_S32_0_12_12_0.resultIdx? (ix1 k) (target (F := Ideal) (col j)) = some (ix3 b r o) ↔ k = b ∧ r = last ∧ o.val = j := by
  have w0 : scatter_S32x256x256_S2_S32_0_12_12_0.window (ix1 k) (0 : Fin 3) = k.val := rfl
  have w1 : scatter_S32x256x256_S2_S32_0_12_12_0.window (ix1 k) (1 : Fin 3) = 0 := rfl
  have w2 : scatter_S32x256x256_S2_S32_0_12_12_0.window (ix1 k) (2 : Fin 3) = 0 := rfl
  have hl : (last : Fin 256).val = 255 := rfl
  rw [Routing.resultIdx?_eq_some]
  constructor
  · intro h
    have h0 := h (0 : Fin 3)
    have h1 := h (1 : Fin 3)
    have h2 := h (2 : Fin 3)
    rw [start0, w0] at h0
    rw [start1, w1] at h1
    rw [start2 j hj, w2] at h2
    change _ = ((b.val : ℕ) : Int) at h0
    change _ = ((r.val : ℕ) : Int) at h1
    change _ = ((o.val : ℕ) : Int) at h2
    exact ⟨Fin.ext (by omega), Fin.ext (by omega), by omega⟩
  · rintro ⟨rfl, rfl, ho⟩ a
    match a with
    | ⟨0, _⟩ =>
      refine (congrArg₂ (fun (u : Int) (v : ℕ) => u + (v : Int)) (start0 j k) w0).trans ?_
      show (0 : Int) + (k.val : Int) = (k.val : Int)
      omega
    | ⟨1, _⟩ =>
      refine (congrArg₂ (fun (u : Int) (v : ℕ) => u + (v : Int)) (start1 j k) w1).trans ?_
      show (255 : Int) + ((0 : ℕ) : Int) = ((last : Fin 256).val : Int)
      omega
    | ⟨2, _⟩ =>
      refine (congrArg₂ (fun (u : Int) (v : ℕ) => u + (v : Int)) (start2 j hj k) w2).trans ?_
      show (j : Int) + ((0 : ℕ) : Int) = (o.val : Int)
      omega

include hj hmc hS in
/-- One trip of the loop is one step on each batch's matrix. -/
theorem trip_at (b : Fin 32) (r o : Fin 256) : trip top j v (ix3 b r o) = stepM (mc b) j (S b) r o := by
  unfold trip put stepM
  by_cases h : r = last ∧ o.val = j
  · rw [if_pos h]
    obtain ⟨hr, ho⟩ := h
    subst hr
    have eo : o = ⟨j, by omega⟩ := Fin.ext ho
    refine Routing.scatter_set_hit _ _ _ _ _ _ (fun u hu => ?_) (ix1 b) ((lands j hj b b last o).mpr ⟨rfl, rfl, ho⟩)
    have eu : u = ix1 (u 0) := by
      funext a
      match a with
      | ⟨0, _⟩ => rfl
    rw [eu] at hu ⊢
    have hb := ((lands j hj (u 0) b last o).mp hu).1
    rw [hb, eo]
    exact update_at j hj v top mc hmc S hS b
  · rw [if_neg h, ← hS]
    refine Routing.scatter_set_miss _ _ _ _ _ fun u hu => h ?_
    have eu : u = ix1 (u 0) := by
      funext a
      match a with
      | ⟨0, _⟩ => rfl
    rw [eu] at hu
    exact ((lands j hj (u 0) b r o).mp hu).2

/-! ## The loop and the results -/

theorem states_at (n : ℕ) (hn : n ≤ 255) (b : Fin 32) (r o : Fin 256) :
    states (F := Ideal) x w n (ix3 b r o) = iterM (mcol (base x w b)) (base x w b) n r o := by
  induction n generalizing b r o with
  | zero => exact marked_at x w b r o
  | succ n ih =>
    exact trip_at n (by omega) (states x w n) (topRows (marked x w)) (fun b => mcol (base x w b)) (topRows_at x w)
      (fun b => iterM (mcol (base x w b)) (base x w b) n) (fun b r o => ih (by omega) b r o) b r o

theorem unmarked_at (b : Fin 32) (r o : Fin 256) : unmarked v (ix3 b r o) = unmark (v (ix3 b r o)) := by
  show Scalar.select (Ideal.cmp .oeq (v (ix3 b r o)) (Ideal.ofBits .f32 0xBF800000#32))
    (Ideal.ofBits .f32 0x00000000#32) (v (ix3 b r o)) = _
  rw [zero, neg_one]
  unfold Ideal.cmp
  rw [Scalar.select_ofBool]
  show (if decide _ = true then _ else _) = unmark _
  unfold unmark
  simp only [decide_eq_true_eq]

theorem columns_at (o : Fin 255) (b : Fin 32) (r : Fin 256) :
    columns v (ix3 o b r) = unmarked v (ix3 b r (⟨o.val, Nat.lt_succ_of_lt o.isLt⟩ : Fin 256)) := by
  unfold columns
  refine (transpose_apply [2, 0, 1] _ transposes_S32x256x255_S255x32x256_2_0_1 (ix3 o b r) (ix3 b r o) fun a => ?_).trans
    (extractStridedSlice_apply ![0, 0, 0] _ slices_S32x256x256_S32x256x255_0_0_0 (ix3 b r o)
      (ix3 b r (⟨o.val, Nat.lt_succ_of_lt o.isLt⟩ : Fin 256)) fun a => ?_)
  · match a with
    | ⟨0, _⟩ => rfl
    | ⟨1, _⟩ => rfl
    | ⟨2, _⟩ => rfl
  · match a with
    | ⟨0, _⟩ => exact (Nat.zero_add _).symm
    | ⟨1, _⟩ => exact (Nat.zero_add _).symm
    | ⟨2, _⟩ => exact (Nat.zero_add _).symm

/-- The first result's element: the closed form of its batch's matrix. -/
theorem first_result_at (b : Fin 32) (r o : Fin 256) : unmarked (states x w 255) (ix3 b r o) = final (base x w b) r o := by
  rw [unmarked_at, states_at x w 255 le_rfl, unmark_iterM]

/-- The second result's element: the same, its column first and the last column left out. -/
theorem second_result_at (o : Fin 255) (b : Fin 32) (r : Fin 256) :
    columns (states x w 255) (ix3 o b r) = final (base x w b) r ⟨o.val, Nat.lt_succ_of_lt o.isLt⟩ := by
  rw [columns_at, first_result_at]

end Cert.ReferenceIdeal.Read

end
-- ==== Proof.Equal.lean ====
/- The value claim: from arguments that agree, the kernel and the reference end with the same two results. -/
module

public import proofs.«01_k».proof.Defs
public import proofs.«01_k».proof.Proof.KerValue
public import proofs.«01_k».proof.Proof.RefValue
public import proofs.«01_k».proof.Proof.RefRun

@[expose] public section

set_option maxRecDepth 16384

noncomputable section

namespace Cert.Proof

open Idealize.ShloMosaic hiding ix0 ix1 ix2 ix3
open Idealize.ShloMosaic.TcCoe Idealize.SL.Sem Idealize.ShloMosaic.ValueIdx
open Cert.ReferenceIdeal.Trip Cert.ReferenceIdeal.Read Cert.KernelIdeal.Read Cert.RowMath Cert.Product

variable (m : (ℓ : Loc Cert.KernelIdeal.nD Cert.KernelIdeal.τ Cert.KernelIdeal.sig) → Buf (Elt Ideal) ℓ)
  (c : Dev Cert.KernelIdeal.nD)

/-- The reference's first result is the kernel's. -/
theorem first_eq : unmarked (F := Ideal) (states (argX m c) (argW m c) 255) = byBatch m c := by
  funext i
  have hi : i = ix3 (i 0 : Fin 32) (i 1 : Fin 256) (i 2 : Fin 256) := by
    funext a; match a with | ⟨0, _⟩ => rfl | ⟨1, _⟩ => rfl | ⟨2, _⟩ => rfl
  exact (congrArg _ hi).trans (first_result_at (argX m c) (argW m c) (i 0) (i 1) (i 2))

/-- And so is its second. -/
theorem second_eq : columns (F := Ideal) (states (argX m c) (argW m c) 255) = cols m c := by
  funext i
  have hi : i = ix3 (i 0 : Fin 255) (i 1 : Fin 32) (i 2 : Fin 256) := by
    funext a; match a with | ⟨0, _⟩ => rfl | ⟨1, _⟩ => rfl | ⟨2, _⟩ => rfl
  exact (congrArg _ hi).trans (second_result_at (argX m c) (argW m c) (i 0) (i 1) (i 2))

theorem algebraic [Cert.KernelIdeal.Facts] [Cert.ReferenceIdeal.Facts] : Cert.algebraic_KernelIdeal_ReferenceIdeal := by
  intro m g m' g' _ hagree
  refine ⟨fun c => byBatch m c, fun c => cols m c, run_values m g, ?_⟩
  refine (θ_run _ _ _).mono (fun r h c => ?_) (Cert.ReferenceIdeal.Run.run (F := Ideal) m' g')
  obtain ⟨h0, h1, h2, h3⟩ := h c
  rw [(hagree c).1, (hagree c).2] at h0 h1
  exact ⟨h0.trans (first_eq m c), h1.trans (second_eq m c), h2, h3⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
